-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S4x1024x1024 : Shape := ⟨3, ![4, 1024, 1024]⟩
abbrev S2x1024x2048 : Shape := ⟨3, ![2, 1024, 2048]⟩
abbrev S3x1024x2048 : Shape := ⟨3, ![3, 1024, 2048]⟩
abbrev S14 : Shape := ⟨1, ![14]⟩
abbrev S2 : Shape := ⟨1, ![2]⟩
abbrev S_ : Shape := ⟨0, ![]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩
abbrev S1x64x1024 : Shape := ⟨3, ![1, 64, 1024]⟩
abbrev S64x1024 : Shape := ⟨2, ![64, 1024]⟩
abbrev S1x1024x2048 : Shape := ⟨3, ![1, 1024, 2048]⟩
abbrev S1024x1024 : Shape := ⟨2, ![1024, 1024]⟩
abbrev S256x2048 : Shape := ⟨2, ![256, 2048]⟩
abbrev S128x2048 : Shape := ⟨2, ![128, 2048]⟩
abbrev S64x2048 : Shape := ⟨2, ![64, 2048]⟩

abbrev nBuf : Space → Nat
  | .hbm => 5
  | .vmem => 5
  | .smem => 2
  | _ => 0

abbrev bufTy : (tb : Table) → Fin (tcTables nBuf tb) → BufTy
  | .hbm, ⟨0, _⟩ => ⟨S4096x1024, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .i8⟩
  | .local _ .vmem, ⟨1, _⟩ => ⟨S1024x2048, .f32⟩
  | .local _ .vmem, ⟨2, _⟩ => ⟨S4x1024x1024, .i8⟩
  | .local _ .vmem, ⟨3, _⟩ => ⟨S2x1024x2048, .i8⟩
  | .local _ .vmem, ⟨4, _⟩ => ⟨S3x1024x2048, .bf16⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v10 : BitVec 32 := Scalar.addi v2 c1_i32_4
  let c4_i32_5 : BitVec 32 := 4#32
  let v11 : BitVec 32 := Scalar.remsi v10 c4_i32_5
  let c1_i32_7 : BitVec 32 := 1#32
  let v12 : BitVec 32 := Scalar.muli v11 c1_i32_7
  let v13 : BitVec 32 := Scalar.addi c0_i32 v12
  v13.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_8 : BitVec 32 := 2#32
  let v14 : BitVec 32 := Scalar.addi v2 c2_i32_8
  let c4_i32_9 : BitVec 32 := 4#32
  let v15 : BitVec 32 := Scalar.remsi v14 c4_i32_9
  let c1_i32_11 : BitVec 32 := 1#32
  let v16 : BitVec 32 := Scalar.muli v15 c1_i32_11
  let v17 : BitVec 32 := Scalar.addi c0_i32_12 v16
  v17.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_13 : BitVec 32 := 3#32
  let v18 : BitVec 32 := Scalar.addi v2 c3_i32_13
  let c4_i32_14 : BitVec 32 := 4#32
  let v19 : BitVec 32 := Scalar.remsi v18 c4_i32_14
  let c1_i32_16 : BitVec 32 := 1#32
  let v20 : BitVec 32 := Scalar.muli v19 c1_i32_16
  let v21 : BitVec 32 := Scalar.addi c0_i32_17 v20
  v21.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_26 : BitVec 32 := 0#32
  let c0_i32_27 : BitVec 32 := 0#32
  ![v2.toNat, 0, 0]
def k0_off2 (d0 : Dev nD) (c1_i32_19 : BitVec 32) (c0_i32_21 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v22 : BitVec 32 := Scalar.addi v2 c1_i32_19
  let c4_i32_20 : BitVec 32 := 4#32
  let v23 : BitVec 32 := Scalar.remsi v22 c4_i32_20
  let c1024_i32 : BitVec 32 := 1024#32
  let v24 : BitVec 32 := Scalar.muli v23 c1024_i32
  let v25 : BitVec 32 := Scalar.addi v24 c0_i32_21
  let c0_i32_28 : BitVec 32 := 0#32
  ![v25.toNat, 0]
def k0_off2_at (r : Fin 11) : BitVec 32 × BitVec 32 :=
  if r.val < 5 then
    if r.val < 2 then
      if r.val < 1 then
        (1#32, 0#32)
      else
        (2#32, 0#32)
    else
      if r.val < 3 then
        (3#32, 0#32)
      else
        if r.val < 4 then
          (1#32, 256#32)
        else
          (2#32, 256#32)
  else
    if r.val < 8 then
      if r.val < 6 then
        (3#32, 256#32)
      else
        if r.val < 7 then
          (1#32, 512#32)
        else
          (2#32, 512#32)
    else
      if r.val < 9 then
        (3#32, 512#32)
      else
        if r.val < 10 then
          (1#32, 768#32)
        else
          (3#32, 768#32)
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v22 : BitVec 32 := Scalar.addi v2 c1_i32_19
  let c4_i32_20 : BitVec 32 := 4#32
  let v23 : BitVec 32 := Scalar.remsi v22 c4_i32_20
  let c1_i32_24 : BitVec 32 := 1#32
  let v26 : BitVec 32 := Scalar.muli v23 c1_i32_24
  let v27 : BitVec 32 := Scalar.addi c0_i32_25 v26
  v27.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v35 : BitVec 32 := Scalar.addi v2 c2_i32_29
  let c4_i32_30 : BitVec 32 := 4#32
  let v36 : BitVec 32 := Scalar.remsi v35 c4_i32_30
  let c1_i32_35 : BitVec 32 := 1#32
  let v39 : BitVec 32 := Scalar.muli v36 c1_i32_35
  let v40 : BitVec 32 := Scalar.addi c0_i32_36 v39
  v40.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_40 : BitVec 32 := 3#32
  let v48 : BitVec 32 := Scalar.addi v2 c3_i32_40
  let c4_i32_41 : BitVec 32 := 4#32
  let v49 : BitVec 32 := Scalar.remsi v48 c4_i32_41
  let c1_i32_45 : BitVec 32 := 1#32
  let v52 : BitVec 32 := Scalar.muli v49 c1_i32_45
  let v53 : BitVec 32 := Scalar.addi c0_i32_46 v52
  v53.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_57 : BitVec 32 := 256#32
  let c0_i32_58 : BitVec 32 := 0#32
  ![v2.toNat, 256, 0]
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v61 : BitVec 32 := Scalar.addi v2 c1_i32_50
  let c4_i32_51 : BitVec 32 := 4#32
  let v62 : BitVec 32 := Scalar.remsi v61 c4_i32_51
  let c1_i32_55 : BitVec 32 := 1#32
  let v65 : BitVec 32 := Scalar.muli v62 c1_i32_55
  let v66 : BitVec 32 := Scalar.addi c0_i32_56 v65
  v66.toNat
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_60 : BitVec 32 := 2#32
  let v74 : BitVec 32 := Scalar.addi v2 c2_i32_60
  let c4_i32_61 : BitVec 32 := 4#32
  let v75 : BitVec 32 := Scalar.remsi v74 c4_i32_61
  let c1_i32_65 : BitVec 32 := 1#32
  let v78 : BitVec 32 := Scalar.muli v75 c1_i32_65
  let v79 : BitVec 32 := Scalar.addi c0_i32_66 v78
  v79.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_70 : BitVec 32 := 3#32
  let v87 : BitVec 32 := Scalar.addi v2 c3_i32_70
  let c4_i32_71 : BitVec 32 := 4#32
  let v88 : BitVec 32 := Scalar.remsi v87 c4_i32_71
  let c1_i32_75 : BitVec 32 := 1#32
  let v91 : BitVec 32 := Scalar.muli v88 c1_i32_75
  let v92 : BitVec 32 := Scalar.addi c0_i32_76 v91
  v92.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_87 : BitVec 32 := 512#32
  let c0_i32_88 : BitVec 32 := 0#32
  ![v2.toNat, 512, 0]
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_80 : BitVec 32 := 1#32
  let v100 : BitVec 32 := Scalar.addi v2 c1_i32_80
  let c4_i32_81 : BitVec 32 := 4#32
  let v101 : BitVec 32 := Scalar.remsi v100 c4_i32_81
  let c1_i32_85 : BitVec 32 := 1#32
  let v104 : BitVec 32 := Scalar.muli v101 c1_i32_85
  let v105 : BitVec 32 := Scalar.addi c0_i32_86 v104
  v105.toNat
def k0_dev11 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_90 : BitVec 32 := 2#32
  let v113 : BitVec 32 := Scalar.addi v2 c2_i32_90
  let c4_i32_91 : BitVec 32 := 4#32
  let v114 : BitVec 32 := Scalar.remsi v113 c4_i32_91
  let c1_i32_95 : BitVec 32 := 1#32
  let v117 : BitVec 32 := Scalar.muli v114 c1_i32_95
  let v118 : BitVec 32 := Scalar.addi c0_i32_96 v117
  v118.toNat
def k0_dev12 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_100 : BitVec 32 := 3#32
  let v126 : BitVec 32 := Scalar.addi v2 c3_i32_100
  let c4_i32_101 : BitVec 32 := 4#32
  let v127 : BitVec 32 := Scalar.remsi v126 c4_i32_101
  let c1_i32_105 : BitVec 32 := 1#32
  let v130 : BitVec 32 := Scalar.muli v127 c1_i32_105
  let v131 : BitVec 32 := Scalar.addi c0_i32_106 v130
  v131.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_117 : BitVec 32 := 768#32
  let c0_i32_118 : BitVec 32 := 0#32
  ![v2.toNat, 768, 0]
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_110 : BitVec 32 := 1#32
  let v139 : BitVec 32 := Scalar.addi v2 c1_i32_110
  let c4_i32_111 : BitVec 32 := 4#32
  let v140 : BitVec 32 := Scalar.remsi v139 c4_i32_111
  let c1_i32_115 : BitVec 32 := 1#32
  let v143 : BitVec 32 := Scalar.muli v140 c1_i32_115
  let v144 : BitVec 32 := Scalar.addi c0_i32_116 v143
  v144.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_127 : BitVec 32 := 768#32
  let c0_i32_128 : BitVec 32 := 0#32
  ![v2.toNat, 768, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_120 : BitVec 32 := 2#32
  let v152 : BitVec 32 := Scalar.addi v2 c2_i32_120
  let c4_i32_121 : BitVec 32 := 4#32
  let v153 : BitVec 32 := Scalar.remsi v152 c4_i32_121
  let c1024_i32_122 : BitVec 32 := 1024#32
  let v154 : BitVec 32 := Scalar.muli v153 c1024_i32_122
  let c768_i32_123 : BitVec 32 := 768#32
  let v155 : BitVec 32 := Scalar.addi v154 c768_i32_123
  let c0_i32_129 : BitVec 32 := 0#32
  ![v155.toNat, 0]
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_120 : BitVec 32 := 2#32
  let v152 : BitVec 32 := Scalar.addi v2 c2_i32_120
  let c4_i32_121 : BitVec 32 := 4#32
  let v153 : BitVec 32 := Scalar.remsi v152 c4_i32_121
  let c1_i32_125 : BitVec 32 := 1#32
  let v156 : BitVec 32 := Scalar.muli v153 c1_i32_125
  let v157 : BitVec 32 := Scalar.addi c0_i32_126 v156
  v157.toNat
def k0_dev15 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_130 : BitVec 32 := 3#32
  let v165 : BitVec 32 := Scalar.addi v2 c3_i32_130
  let c4_i32_131 : BitVec 32 := 4#32
  let v166 : BitVec 32 := Scalar.remsi v165 c4_i32_131
  let c1_i32_135 : BitVec 32 := 1#32
  let v169 : BitVec 32 := Scalar.muli v166 c1_i32_135
  let v170 : BitVec 32 := Scalar.addi c0_i32_136 v169
  v170.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_146 : BitVec 32 := 896#32
  let c0_i32_147 : BitVec 32 := 0#32
  ![v2.toNat, 896, 0]
def k0_off9 (d0 : Dev nD) (c896_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_140 : BitVec 32 := 2#32
  let v178 : BitVec 32 := Scalar.addi v2 c2_i32_140
  let c4_i32_141 : BitVec 32 := 4#32
  let v179 : BitVec 32 := Scalar.remsi v178 c4_i32_141
  let c1024_i32_142 : BitVec 32 := 1024#32
  let v180 : BitVec 32 := Scalar.muli v179 c1024_i32_142
  let v181 : BitVec 32 := Scalar.addi v180 c896_i32
  let c0_i32_148 : BitVec 32 := 0#32
  ![v181.toNat, 0]
def k0_dev16 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_140 : BitVec 32 := 2#32
  let v178 : BitVec 32 := Scalar.addi v2 c2_i32_140
  let c4_i32_141 : BitVec 32 := 4#32
  let v179 : BitVec 32 := Scalar.remsi v178 c4_i32_141
  let c1_i32_144 : BitVec 32 := 1#32
  let v182 : BitVec 32 := Scalar.muli v179 c1_i32_144
  let v183 : BitVec 32 := Scalar.addi c0_i32_145 v182
  v183.toNat
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_155 : BitVec 32 := 960#32
  let c0_i32_156 : BitVec 32 := 0#32
  ![v2.toNat, 960, 0]
def k0_dev17 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_149 : BitVec 32 := 2#32
  let v191 : BitVec 32 := Scalar.addi v2 c2_i32_149
  let c4_i32_150 : BitVec 32 := 4#32
  let v192 : BitVec 32 := Scalar.remsi v191 c4_i32_150
  let c1_i32_153 : BitVec 32 := 1#32
  let v195 : BitVec 32 := Scalar.muli v192 c1_i32_153
  let v196 : BitVec 32 := Scalar.addi c0_i32_154 v195
  v196.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_158 : BitVec 32 := 1024#32
  let v204 : BitVec 32 := Scalar.muli v2 c1024_i32_158
  let c0_i32_163 : BitVec 32 := 0#32
  ![v204.toNat, 0]
def k0_off12 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c1024_i32_164 : BitVec 32 := 1024#32
  let v210 : BitVec 32 := Scalar.muli v4 c1024_i32_164
  let c0_i32_169 : BitVec 32 := 0#32
  ![v210.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_186 : BitVec 32 := 1024#32
  let v233 : BitVec 32 := Scalar.muli v2 c1024_i32_186
  let v234 : Index := Scalar.indexCast v233
  let c0_187 : Index := 0#32
  ![v234.toNat, 0]
def k0_off14 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v285 : Index := Scalar.indexCast v4
  let c0_234 : Index := 0#32
  let c0_235 : Index := 0#32
  ![v285.toNat, 0, 0]
def k0_off15 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v342 : Index := Scalar.indexCast v4
  let c256 : Index := 256#32
  let c0_291 : Index := 0#32
  ![v342.toNat, 256, 0]
def k0_off16 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v415 : Index := Scalar.indexCast v4
  let c512 : Index := 512#32
  let c0_360 : Index := 0#32
  ![v415.toNat, 512, 0]
def k0_off17 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let v488 : Index := Scalar.indexCast v4
  let c768 : Index := 768#32
  let c0_429 : Index := 0#32
  ![v488.toNat, 768, 0]
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let v561 : Index := Scalar.indexCast v8
  let c768_498 : Index := 768#32
  let c0_499 : Index := 0#32
  ![v561.toNat, 768, 0]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let v588 : Index := Scalar.indexCast v8
  let c896 : Index := 896#32
  let c0_522 : Index := 0#32
  ![v588.toNat, 896, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let v615 : Index := Scalar.indexCast v8
  let c960 : Index := 960#32
  let c0_545 : Index := 0#32
  ![v615.toNat, 960, 0]
abbrev stage0_0 : Fin 1 → Memref sig .tc .vmem S4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.KernelIdealProtocol.lean ====
/-
The protocol of the kernel: its fourteen channels, its cells, what each landing hands over.

Device `c` holds rows of its column block of `x` for every device. Each channel `j` carries `len j` rows of
them, from row `off j` of the block meant for the device `dist j` places further round, into that device's
landing buffer, in the slot of the sender. The cells of a device are its barrier semaphore, a departure and
an arrival semaphore for each channel, and two semaphores for its own copies of `w`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- A round's duties are named by three names: the barrier's three signallers; one name elsewhere. -/
abbrev Du : Type := Fin 3
abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: contents `m`, every semaphore counter zero. -/
def s₀ : MemSt nD τ sig (Elt F) := ⟨m, fun _ => 0, ρ⟩

/-! ## Channels -/

abbrev Ch : Type := Fin 14

/-- How many places round the mesh channel `j` goes. -/
def dist : Ch → ℕ := ![1, 1, 1, 1, 2, 2, 2, 2, 2, 2, 3, 3, 3, 3]
/-- The first row of the block channel `j` carries. -/
def off : Ch → ℕ := ![0, 256, 512, 768, 0, 256, 512, 768, 896, 960, 0, 256, 512, 768]
/-- How many rows channel `j` carries. -/
def len : Ch → ℕ := ![256, 256, 256, 256, 256, 256, 256, 128, 64, 64, 256, 256, 256, 256]

/-- The device `k` places further round. -/
def sh (k : ℕ) (c : Dev nD) : Dev nD := ⟨(c.val + k) % 4, Nat.mod_lt _ (by decide)⟩

theorem sh_sh (k l : ℕ) (c : Dev nD) : sh k (sh l c) = sh (l + k) c := by
  apply Fin.ext; show ((c.val + l) % 4 + k) % 4 = (c.val + (l + k)) % 4; omega

theorem sh_four (c : Dev nD) : sh 4 c = c := by
  apply Fin.ext; show (c.val + 4) % 4 = c.val; have := c.isLt; have : nD = 4 := rfl; omega

/-- Where channel `j` of device `c` goes, and where the one arriving at `c` comes from. -/
def dstOf (c : Dev nD) (j : Ch) : Dev nD := sh (dist j) c
def srcOf (c : Dev nD) (j : Ch) : Dev nD := sh (4 - dist j) c

theorem dist_le (j : Ch) : 1 ≤ dist j ∧ dist j ≤ 3 := by revert j; decide

theorem srcOf_dstOf (c : Dev nD) (j : Ch) : srcOf (dstOf c j) j = c := by
  unfold srcOf dstOf; rw [sh_sh, show dist j + (4 - dist j) = 4 by have := dist_le j; omega, sh_four]
theorem dstOf_srcOf (c : Dev nD) (j : Ch) : dstOf (srcOf c j) j = c := by
  unfold srcOf dstOf; rw [sh_sh, show 4 - dist j + dist j = 4 by have := dist_le j; omega, sh_four]

/-- Going round by `k ≤ 4` places, and back. -/
def turn (k : ℕ) (hk : k ≤ 4) : Dev nD ≃ Dev nD where
  toFun := sh k
  invFun := sh (4 - k)
  left_inv c := by rw [sh_sh, show k + (4 - k) = 4 by omega, sh_four]
  right_inv c := by rw [sh_sh, show 4 - k + k = 4 by omega, sh_four]

/-! ## Cells -/

abbrev barS : Sem sig := (SemArray.scalar (sig.barrier 0 rfl) : Sems sig S_).sem

/-- The kernel's own thirty transfer semaphores, in order: fourteen departures, fourteen arrivals, two for `w`. -/
def ownS (i : Fin 30) : DmaSem sig := ⟨4 + i.val, by show 4 + i.val < 34; omega⟩
def sndI (j : Ch) : Fin 30 := ⟨j.val, by omega⟩
def rcvI (j : Ch) : Fin 30 := ⟨14 + j.val, by omega⟩
def wcpI (s : Fin 2) : Fin 30 := ⟨28 + s.val, by omega⟩
abbrev sndS (j : Ch) : DmaSem sig := ownS (sndI j)
abbrev rcvS (j : Ch) : DmaSem sig := ownS (rcvI j)
abbrev wcpS (s : Fin 2) : DmaSem sig := ownS (wcpI s)

abbrev barCell (c : Dev nD) : GSem nD τ sig := ((c : Thread nD τ), .reg barS)
abbrev ownCell (c : Dev nD) (i : Fin 30) : GSem nD τ sig := ((c : Thread nD τ), .dma (ownS i))
abbrev sndCell (c : Dev nD) (j : Ch) : GSem nD τ sig := ownCell c (sndI j)
abbrev rcvCell (c : Dev nD) (j : Ch) : GSem nD τ sig := ownCell c (rcvI j)
abbrev wcpCell (c : Dev nD) (s : Fin 2) : GSem nD τ sig := ownCell c (wcpI s)

/-- What a semaphore is for. -/
inductive Role where
  | bar | snd (j : Ch) | rcv (j : Ch) | wcp (s : Fin 2) | other

/-- The role of each semaphore of a core, read off its number. -/
def role : SemLoc sig → Role
  | .reg _ => .bar
  | .dma q => if h₁ : q.val < 4 then .other else if h₂ : q.val < 18 then .snd ⟨q.val - 4, by omega⟩
      else if h₃ : q.val < 32 then .rcv ⟨q.val - 18, by omega⟩
      else .wcp ⟨q.val - 32, by have : q.val < 34 := q.isLt; omega⟩

theorem role_bar (s : Sem sig) : role (.reg s) = .bar := rfl
theorem role_snd (j : Ch) : role (.dma (sndS j)) = .snd j := by
  have hj := j.isLt
  have h1 : ¬ (sndS j).val < 4 := by show ¬ 4 + j.val < 4; omega
  have h2 : (sndS j).val < 18 := by show 4 + j.val < 18; omega
  unfold role; simp only [dif_neg h1, dif_pos h2]
  congr 1; apply Fin.ext; show 4 + j.val - 4 = j.val; omega
theorem role_rcv (j : Ch) : role (.dma (rcvS j)) = .rcv j := by
  have hj := j.isLt
  have h1 : ¬ (rcvS j).val < 4 := by show ¬ 4 + (14 + j.val) < 4; omega
  have h2 : ¬ (rcvS j).val < 18 := by show ¬ 4 + (14 + j.val) < 18; omega
  have h3 : (rcvS j).val < 32 := by show 4 + (14 + j.val) < 32; omega
  unfold role; simp only [dif_neg h1, dif_neg h2, dif_pos h3]
  congr 1; apply Fin.ext; show 4 + (14 + j.val) - 18 = j.val; omega
theorem role_wcp (s : Fin 2) : role (.dma (wcpS s)) = .wcp s := by
  have hs := s.isLt
  have h1 : ¬ (wcpS s).val < 4 := by show ¬ 4 + (28 + s.val) < 4; omega
  have h2 : ¬ (wcpS s).val < 18 := by show ¬ 4 + (28 + s.val) < 18; omega
  have h3 : ¬ (wcpS s).val < 32 := by show ¬ 4 + (28 + s.val) < 32; omega
  unfold role; simp only [dif_neg h1, dif_neg h2, dif_neg h3]
  congr 1; apply Fin.ext; show 4 + (28 + s.val) - 32 = s.val; omega

/-! ## What is where -/

/-- The rows of `x` device `c` keeps, and those channel `j` carries away. -/
def xOwn (c : Dev nD) : Finset S4096x1024.Idx :=
  Finset.univ.filter fun i => 1024 * c.val ≤ (i 0).val ∧ (i 0).val < 1024 * c.val + 1024
def xChunk (c : Dev nD) (j : Ch) : Finset S4096x1024.Idx :=
  Finset.univ.filter fun i => 1024 * (dstOf c j).val + off j ≤ (i 0).val ∧ (i 0).val < 1024 * (dstOf c j).val + off j + len j

/-- The part of the landing buffer of `c` that nothing lands in, and the part channel `j` fills. -/
def bOwn (c : Dev nD) : Finset S4x1024x1024.Idx := Finset.univ.filter fun i => (i 0).val = c.val
def bChunk (c : Dev nD) (j : Ch) : Finset S4x1024x1024.Idx :=
  Finset.univ.filter fun i => (i 0).val = (srcOf c j).val ∧ off j ≤ (i 1).val ∧ (i 1).val < off j + len j

/-- Block `b` of `w`'s rows; slot `s` of the two int8 staging slots, and of the three converted ones. -/
def wBlock (b : Dev nD) : Finset S4096x2048.Idx :=
  Finset.univ.filter fun i => 1024 * b.val ≤ (i 0).val ∧ (i 0).val < 1024 * b.val + 1024
def tSlot (s : Fin 2) : Finset S2x1024x2048.Idx := Finset.univ.filter fun i => (i 0).val = s.val
def vSlot (s : Fin 3) : Finset S3x1024x2048.Idx := Finset.univ.filter fun i => (i 0).val = s.val

/-- What the pipeline stages of `x` and the scales, and `w` where it lies. -/
def xstg (c : Dev nD) : (cc0_stg0_0 : Ref sig .tc).ty.Contents (Elt F) :=
  (win0_0.blk (0 : Fin 1)).view.read (Elt F) ((s₀ m ρ).mem ((c : Thread nD τ).loc main_arg0))
def sxstg (c : Dev nD) : (cc0_stg1_0 : Ref sig .tc).ty.Contents (Elt F) :=
  (win0_1.blk (0 : Fin 1)).view.read (Elt F) ((s₀ m ρ).mem ((c : Thread nD τ).loc main_arg2))
def swstg (c : Dev nD) : (cc0_stg2_0 : Ref sig .tc).ty.Contents (Elt F) :=
  (win0_2.blk (0 : Fin 1)).view.read (Elt F) ((s₀ m ρ).mem ((c : Thread nD τ).loc main_arg3))
def wArr (c : Dev nD) : (main_arg1 : Ref sig .tc).ty.Contents (Elt F) := m ((c : Thread nD τ).loc main_arg1)

/-- The landing buffer of `c` once everything has landed: in slot `s`, the rows device `s` holds for `c`. -/
def landed (c : Dev nD) : (cc0_scratch0 : Ref sig .tc).ty.Contents (Elt F) := fun i =>
  xstg m ρ (⟨(i 0).val, (i 0).isLt⟩ : Dev nD)
    (ix2 (n0 := 4096) (n1 := 1024) ⟨1024 * c.val + (i 1).val, by
      have h1 : (i 1).val < 1024 := (i 1).isLt
      have h2 : c.val < 4 := c.isLt
      omega⟩ ⟨(i 2).val, (i 2).isLt⟩)

/-- A staging slot of `w` holding block `b`. -/
def wland (c b : Dev nD) : (cc0_scratch1 : Ref sig .tc).ty.Contents (Elt F) := fun i =>
  wArr m c (ix2 (n0 := 4096) (n1 := 2048) ⟨1024 * b.val + (i 1).val, by
      have h1 : (i 1).val < 1024 := (i 1).isLt
      have h2 : b.val < 4 := b.isLt
      omega⟩ ⟨(i 2).val, (i 2).isLt⟩)

/-- Which block of `w` round `r` of slot `s` brings to device `c`. -/
def wBlk (c : Dev nD) (s : Fin 2) (r : ℕ) : Dev nD :=
  if s = 0 then (if r = 0 then c else sh 1 c) else (if r = 0 then sh 3 c else sh 2 c)

/-! ## Ownership -/

def xPts (c : Dev nD) (S : Finset S4096x1024.Idx) : sProp 𝕄 :=
  ((c : Thread nD τ).loc cc0_stg0_0) ↦[S]{fullShare} xstg m ρ c
def bPts (c : Dev nD) (S : Finset S4x1024x1024.Idx) (f : (cc0_scratch0 : Ref sig .tc).ty.Contents (Elt F)) : sProp 𝕄 :=
  ((c : Thread nD τ).loc cc0_scratch0) ↦[S]{fullShare} f
def wPts (c b : Dev nD) : sProp 𝕄 := ((c : Thread nD τ).loc main_arg1) ↦[wBlock b]{fullShare} wArr m c
def tPts (c : Dev nD) (s : Fin 2) (f : (cc0_scratch1 : Ref sig .tc).ty.Contents (Elt F)) : sProp 𝕄 :=
  ((c : Thread nD τ).loc cc0_scratch1) ↦[tSlot s]{fullShare} f

omit [FloatOps F] in
instance xPts_storable (c : Dev nD) (S) : BI.Storable (upEmb : UEmb _ 𝕄) (xPts (F := F) m ρ c S) := by unfold xPts; infer_instance
omit [FloatOps F] in
instance bPts_storable (c : Dev nD) (S) (f) : BI.Storable (upEmb : UEmb _ 𝕄) (bPts (F := F) c S f) := by unfold bPts; infer_instance
omit [FloatOps F] in
instance wPts_storable (c b : Dev nD) : BI.Storable (upEmb : UEmb _ 𝕄) (wPts (F := F) m c b) := by unfold wPts; infer_instance
omit [FloatOps F] in
instance tPts_storable (c : Dev nD) (s) (f) : BI.Storable (upEmb : UEmb _ 𝕄) (tPts (F := F) c s f) := by unfold tPts; infer_instance

/-! ## Payloads -/

/-- Some contents of the part of `c`'s landing buffer that channel `j` fills. -/
def room (c : Dev nD) (j : Ch) : sProp 𝕄 := iprop(∃ f, bPts c (bChunk c j) f)

/-- What the signal named `d` hands the barrier cell of `c`: the signaller's room for each channel of `c`
    that goes to it. -/
def barPay (c : Dev nD) (d : Du) : sProp 𝕄 :=
  bigSep Finset.univ fun j : Ch => if dist j + d.val = 3 then room (F := F) (dstOf c j) j else iprop(emp)

/-- What a departure returns: the rows sent; an arrival: the rows landed; a copy of `w`: the slot filled and
    the block read. -/
def sndPay (c : Dev nD) (j : Ch) : sProp 𝕄 := xPts m ρ c (xChunk c j)
def rcvPay (c : Dev nD) (j : Ch) : sProp 𝕄 := bPts c (bChunk c j) (landed m ρ c)
def wcpPay (c : Dev nD) (s : Fin 2) (r : ℕ) : sProp 𝕄 := iprop(tPts c s (wland m c (wBlk c s r)) ∗ wPts m c (wBlk c s r))

omit [FloatOps F] in
instance barPay_storable (c : Dev nD) (d : Du) : BI.Storable (upEmb : UEmb _ 𝕄) (barPay (F := F) c d) := by
  have (j : Ch) : BI.Storable (upEmb : UEmb _ 𝕄) (if dist j + d.val = 3 then room (F := F) (dstOf c j) j else iprop(emp)) := by
    unfold room; split <;> infer_instance
  unfold barPay; infer_instance

/-- What a transfer of `n` rows of `x` credits, and a copy of a block of `w`. -/
def credN (n : ℕ) : ℕ := sig.dmaCredit .tc (Kind.table .tc .vmem) (0 : Fin 5) (⟨2, ![n, 1024]⟩ : Shape) .i8
def credW : ℕ := sig.dmaCredit .tc (Kind.table .tc .vmem) (0 : Fin 5) S1024x2048 .i8

theorem credN_pos (j : Ch) : 0 < credN (len j) := by
  unfold credN
  refine sig.dmaCredit_pos _ _ _ _ _ (Shape.numel_pos fun a => ?_)
  revert a; revert j; decide
theorem credW_pos : 0 < credW := sig.dmaCredit_pos _ _ _ _ _ (Shape.numel_pos (by decide))

/-! ## The schedule -/

/-- A barrier cell has one round of three duties of one unit; a departure or arrival cell one round of one
    duty of its transfer's credit; a copy cell two rounds of one duty of a block's credit. -/
def Rd : Rounds.Schedule (GSem nD τ sig) Du 𝕄 where
  duties g r := if g.1.2 = .tc then
      match role g.2 with
      | .bar => if r = 0 then Finset.univ else ∅
      | .snd _ => if r = 0 then {0} else ∅
      | .rcv _ => if r = 0 then {0} else ∅
      | .wcp _ => if r < 2 then {0} else ∅
      | .other => ∅
    else ∅
  unitless _ := False
  amount g _ _ :=
    match role g.2 with
    | .bar => 1
    | .snd j => credN (len j)
    | .rcv j => credN (len j)
    | .wcp _ => credW
    | .other => 1
  payload g r d :=
    match role g.2 with
    | .bar => barPay g.1.1 d
    | .snd j => sndPay m ρ g.1.1 j
    | .rcv j => rcvPay m ρ g.1.1 j
    | .wcp s => wcpPay m g.1.1 s r
    | .other => iprop(emp)
  amount_pos g _ _ _ := by
    split
    · exact Nat.one_pos
    · exact credN_pos _
    · exact credN_pos _
    · exact credW_pos
    · exact Nat.one_pos

omit [FloatOps F] in
instance Rd_payload_storable (g : GSem nD τ sig) (r : ℕ) (d : Du) :
    BI.Storable (upEmb : UEmb _ 𝕄) ((Rd (F := F) m ρ).payload g r d) := by
  dsimp only [Rd]
  unfold sndPay rcvPay wcpPay
  split <;> infer_instance

section Sched
variable (c : Dev nD)

omit [FloatOps F] in
theorem duties_bar : (Rd (F := F) m ρ).duties (barCell c) 0 = Finset.univ := rfl
omit [FloatOps F] in
theorem duties_snd (j : Ch) : (Rd (F := F) m ρ).duties (sndCell c j) 0 = {0} := by dsimp only [Rd]; rw [role_snd]; rfl
omit [FloatOps F] in
theorem duties_rcv (j : Ch) : (Rd (F := F) m ρ).duties (rcvCell c j) 0 = {0} := by dsimp only [Rd]; rw [role_rcv]; rfl
omit [FloatOps F] in
theorem duties_wcp (s : Fin 2) (r : ℕ) (hr : r < 2) : (Rd (F := F) m ρ).duties (wcpCell c s) r = {0} := by
  dsimp only [Rd]; rw [role_wcp, if_pos rfl]; exact if_pos hr
omit [FloatOps F] in
theorem duties_bar_later : ∀ r, 1 ≤ r → (Rd (F := F) m ρ).duties (barCell c) r = ∅ :=
  fun r hr => by dsimp only [Rd]; rw [role_bar, if_pos rfl]; exact if_neg (by omega)
omit [FloatOps F] in
theorem duties_snd_later (j : Ch) : ∀ r, 1 ≤ r → (Rd (F := F) m ρ).duties (sndCell c j) r = ∅ :=
  fun r hr => by dsimp only [Rd]; rw [role_snd, if_pos rfl]; exact if_neg (by omega)
omit [FloatOps F] in
theorem duties_rcv_later (j : Ch) : ∀ r, 1 ≤ r → (Rd (F := F) m ρ).duties (rcvCell c j) r = ∅ :=
  fun r hr => by dsimp only [Rd]; rw [role_rcv, if_pos rfl]; exact if_neg (by omega)
omit [FloatOps F] in
theorem duties_wcp_later (s : Fin 2) : ∀ r, 2 ≤ r → (Rd (F := F) m ρ).duties (wcpCell c s) r = ∅ :=
  fun r hr => by dsimp only [Rd]; rw [role_wcp, if_pos rfl]; exact if_neg (by omega)

omit [FloatOps F] in
theorem amount_bar (r) (d : Du) : (Rd (F := F) m ρ).amount (barCell c) r d = 1 := rfl
omit [FloatOps F] in
theorem amount_snd (j : Ch) (r) (d : Du) : (Rd (F := F) m ρ).amount (sndCell c j) r d = credN (len j) := by dsimp only [Rd]; rw [role_snd]
omit [FloatOps F] in
theorem amount_rcv (j : Ch) (r) (d : Du) : (Rd (F := F) m ρ).amount (rcvCell c j) r d = credN (len j) := by dsimp only [Rd]; rw [role_rcv]
omit [FloatOps F] in
theorem amount_wcp (s : Fin 2) (r) (d : Du) : (Rd (F := F) m ρ).amount (wcpCell c s) r d = credW := by dsimp only [Rd]; rw [role_wcp]

omit [FloatOps F] in
theorem expect_bar : (Rd (F := F) m ρ).expect (barCell c) 0 = 3 := by
  unfold Schedule.expect Schedule.amountOf
  rw [duties_bar, Finset.sum_congr rfl fun d _ => amount_bar m ρ c 0 d]; rfl
omit [FloatOps F] in
theorem expect_snd (j : Ch) : (Rd (F := F) m ρ).expect (sndCell c j) 0 = credN (len j) := by
  unfold Schedule.expect Schedule.amountOf; rw [duties_snd, Finset.sum_singleton, amount_snd]
omit [FloatOps F] in
theorem expect_rcv (j : Ch) : (Rd (F := F) m ρ).expect (rcvCell c j) 0 = credN (len j) := by
  unfold Schedule.expect Schedule.amountOf; rw [duties_rcv, Finset.sum_singleton, amount_rcv]
omit [FloatOps F] in
theorem expect_wcp (s : Fin 2) (r : ℕ) (hr : r < 2) : (Rd (F := F) m ρ).expect (wcpCell c s) r = credW := by
  unfold Schedule.expect Schedule.amountOf; rw [duties_wcp m ρ c s r hr, Finset.sum_singleton, amount_wcp]

omit [FloatOps F] in
theorem payload_bar (r) (d : Du) : (Rd (F := F) m ρ).payload (barCell c) r d = barPay c d := rfl
omit [FloatOps F] in
theorem payload_snd (j : Ch) (r) (d : Du) : (Rd (F := F) m ρ).payload (sndCell c j) r d = sndPay m ρ c j := by dsimp only [Rd]; rw [role_snd]
omit [FloatOps F] in
theorem payload_rcv (j : Ch) (r) (d : Du) : (Rd (F := F) m ρ).payload (rcvCell c j) r d = rcvPay m ρ c j := by dsimp only [Rd]; rw [role_rcv]
omit [FloatOps F] in
theorem payload_wcp (s : Fin 2) (r) (d : Du) : (Rd (F := F) m ρ).payload (wcpCell c s) r d = wcpPay m c s r := by dsimp only [Rd]; rw [role_wcp]

omit [FloatOps F] in
theorem rest_snd (j : Ch) : bigSep ((Rd (F := F) m ρ).duties (sndCell c j) 0 \ ∅) (fun d => (Rd (F := F) m ρ).payload (sndCell c j) 0 d) = sndPay m ρ c j := by
  rw [Finset.sdiff_empty, duties_snd, bigSep_singleton, payload_snd]
omit [FloatOps F] in
theorem rest_rcv (j : Ch) : bigSep ((Rd (F := F) m ρ).duties (rcvCell c j) 0 \ ∅) (fun d => (Rd (F := F) m ρ).payload (rcvCell c j) 0 d) = rcvPay m ρ c j := by
  rw [Finset.sdiff_empty, duties_rcv, bigSep_singleton, payload_rcv]
omit [FloatOps F] in
theorem rest_wcp (s : Fin 2) (r : ℕ) (hr : r < 2) :
    bigSep ((Rd (F := F) m ρ).duties (wcpCell c s) r \ ∅) (fun d => (Rd (F := F) m ρ).payload (wcpCell c s) r d) = wcpPay m c s r := by
  rw [Finset.sdiff_empty, duties_wcp m ρ c s r hr, bigSep_singleton, payload_wcp]

omit [FloatOps F] in
theorem bigSep_du (Φ : Du → sProp 𝕄) : bigSep Finset.univ Φ = iprop(Φ 0 ∗ Φ 1 ∗ Φ 2) :=
  bigSep_univ_eq_bigSepL [0, 1, 2] (by decide) (by decide) Φ

omit [FloatOps F] in
/-- Entailment family by family. -/
theorem bigSep_each {I : Type} {s : Finset I} {Φ Ψ : I → sProp 𝕄} (h : ∀ i, Φ i ⊢ Ψ i) : bigSep s Φ ⊢ bigSep s Ψ :=
  bigSep_mono fun i _ => h i

omit [FloatOps F] in
/-- The three signals' payloads together: the room for every channel of `c`. -/
theorem rest_bar : bigSep ((Rd (F := F) m ρ).duties (barCell c) 0 \ ∅) (fun d => (Rd (F := F) m ρ).payload (barCell c) 0 d)
    ⊢ bigSep Finset.univ fun j : Ch => room (F := F) (dstOf c j) j := by
  rw [Finset.sdiff_empty, duties_bar]
  show bigSep Finset.univ (fun d => barPay (F := F) c d) ⊢ _
  unfold barPay
  rw [bigSep_univ_comm]
  refine bigSep_each fun j => ?_
  rw [bigSep_du]
  have h3 : dist j = 1 ∨ dist j = 2 ∨ dist j = 3 := by have := dist_le j; omega
  rcases h3 with h | h | h <;> rw [h]
  · rw [if_neg (by decide), if_neg (by decide), if_pos (by decide)]
    iintro ⟨-, -, H⟩; iexact H
  · rw [if_neg (by decide), if_pos (by decide), if_neg (by decide)]
    iintro ⟨-, H, -⟩; iexact H
  · rw [if_pos (by decide), if_neg (by decide), if_neg (by decide)]
    iintro ⟨H, -⟩; iexact H

omit [FloatOps F] in
/-- What device `c` hands over with its signal `d`, which goes to the device `d + 1` places further. -/
theorem barPay_sh (d : Du) : barPay (F := F) (sh (d.val + 1) c) d
    = bigSep Finset.univ fun j : Ch => if dist j + d.val = 3 then room (F := F) c j else iprop(emp) := by
  unfold barPay
  refine bigSep_congr fun j _ => ?_
  by_cases h : dist j + d.val = 3
  · rw [if_pos h, if_pos h]
    unfold dstOf; rw [sh_sh, show d.val + 1 + dist j = 4 by omega, sh_four]
  · rw [if_neg h, if_neg h]

omit [FloatOps F] in
/-- All the room of device `c`, divided among its three signals. -/
theorem room_split : (bigSep Finset.univ fun j : Ch => room (F := F) c j)
    ⊢ iprop(barPay (F := F) (sh 1 c) 0 ∗ barPay (F := F) (sh 2 c) 1 ∗ barPay (F := F) (sh 3 c) 2) := by
  rw [show barPay (F := F) (sh 1 c) 0 = _ from barPay_sh c 0, show barPay (F := F) (sh 2 c) 1 = _ from barPay_sh c 1,
    show barPay (F := F) (sh 3 c) 2 = _ from barPay_sh c 2, ← bigSep_sep', ← bigSep_sep']
  refine bigSep_each fun j => ?_
  have h3 : dist j = 1 ∨ dist j = 2 ∨ dist j = 3 := by have := dist_le j; omega
  rcases h3 with h | h | h <;> rw [h]
  · rw [if_neg (by decide), if_neg (by decide), if_pos (by decide)]
    iintro H; isplitr; · iempintro
    isplitr; · iempintro
    iexact H
  · rw [if_neg (by decide), if_pos (by decide), if_neg (by decide)]
    iintro H; isplitr; · iempintro
    isplitl; · iexact H
    iempintro
  · rw [if_pos (by decide), if_neg (by decide), if_neg (by decide)]
    iintro H; isplitl; · iexact H
    isplitr <;> iempintro

end Sched

/-! ## What each device owes, and the levels -/

/-- What `c` owes for the channels not in `A`: each one's credit at its destination. -/
def owedTo (c : Dev nD) (A : Finset Ch) : CellTallies nD τ sig Unit :=
  ∑ j ∈ Finset.univ \ A, tallyAt (rcvCell (dstOf c j) j) () (credN (len j))

/-- What device `c` owes at launch: every channel's credit, and a unit to each other device's barrier. -/
def O₀ (c : Dev nD) : CellTallies nD τ sig Unit :=
  owedTo c ∅ + tallyAt (barCell (sh 3 c)) () 1 + tallyAt (barCell (sh 2 c)) () 1 + tallyAt (barCell (sh 1 c)) () 1

theorem owedTo_insert (c : Dev nD) (A : Finset Ch) (j : Ch) (hj : j ∉ A) :
    owedTo c A = owedTo c (insert j A) + tallyAt (rcvCell (dstOf c j) j) () (credN (len j)) := by
  unfold owedTo
  have : Finset.univ \ A = insert j (Finset.univ \ insert j A) := by
    ext i; simp only [Finset.mem_sdiff, Finset.mem_univ, true_and, Finset.mem_insert]
    by_cases h : i = j
    · subst h; simp [hj]
    · simp [h]
  rw [this, Finset.sum_insert (by simp), add_comm]

theorem owedTo_univ (c : Dev nD) : owedTo c Finset.univ = 0 := by
  unfold owedTo; rw [Finset.sdiff_self, Finset.sum_empty]

def L (g : GSem nD τ sig) : Finset Unit := if g.1.2 = .tc then {()} else ∅
/-- Arrivals are above barriers, and barriers above everything else. -/
def lv (g : GSem nD τ sig) (_ : Unit) : ℕ := match role g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := rfl
theorem lv_rcv (c : Dev nD) (j : Ch) (u) : lv (rcvCell c j) u = 2 := by unfold lv; rw [role_rcv]

theorem owedTo_pos {c : Dev nD} {A : Finset Ch} {g : GSem nD τ sig} {u : Unit} (h : 0 < owedTo c A g u) :
    ∃ j, g = rcvCell (dstOf c j) j := by
  by_contra hn
  refine absurd h ?_
  have : owedTo c A g u = ∑ j ∈ Finset.univ \ A, (tallyAt (rcvCell (dstOf c j) j) () (credN (len j)) : CellTallies nD τ sig Unit) g u := by
    unfold owedTo; rw [Finset.sum_apply, Finsupp.finset_sum_apply]
  rw [this, Finset.sum_eq_zero fun j _ => ?_]
  · exact Nat.lt_irrefl 0
  · rw [tallyAt_apply, if_neg fun h' => hn ⟨j, h'.1⟩]

theorem O₀_pos {c : Dev nD} {g : GSem nD τ sig} {u : Unit} (h : 0 < O₀ c g u) :
    (∃ j, g = rcvCell (dstOf c j) j) ∨ ∃ p, g = barCell p := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (owedTo_pos h)
      · exact .inr ⟨_, (Pipeline.tallyAt_pos h).1⟩
    · exact .inr ⟨_, (Pipeline.tallyAt_pos h).1⟩
  · exact .inr ⟨_, (Pipeline.tallyAt_pos h).1⟩

omit [FloatOps F] in
/-- A semaphore of level zero may be waited on whatever is owed among these. -/
theorem mayWait_low (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨p, rfl⟩ <;> exact Finset.mem_singleton_self _)
      (fun p hp => by rw [Finset.mem_singleton.mp hp]; exact hq.le)
      (fun g u hg => by
        rcases O₀_pos hg with ⟨j, rfl⟩ | ⟨p, rfl⟩
        · rw [lv_rcv]; decide
        · rw [lv_bar]; decide)
  · rw [MayWait_zero]; iintro -; iempintro

omit [FloatOps F] in
/-- At its barrier wait a device owes arrivals only, all above its barrier. -/
theorem mayWait_bar (c : Dev nD) : (levAts L lv : sProp 𝕄) ⊢ MayWait (c : Thread nD τ) (.reg barS) () (owedTo c ∅) :=
  MayOwe.of_cut (L := L) (lev := lv) 1 (fun p hp => by rw [Finset.mem_singleton.mp hp, L_tc]; exact Finset.mem_singleton_self _)
    (fun g u hg => by obtain ⟨j, rfl⟩ := owedTo_pos hg; exact Finset.mem_singleton_self _)
    (fun p hp => by rw [Finset.mem_singleton.mp hp]; exact (lv_bar c ()).le)
    (fun g u hg => by obtain ⟨j, rfl⟩ := owedTo_pos hg; rw [lv_rcv]; decide)

end Cert.KernelIdealProof

end
-- ==== Proof.KernelIdealGeometry.lean ====
/-
Where the kernel's slices lie, and what a transfer through them writes.
-/
module

public import proofs.«01_k».proof.Proof.KernelIdealProtocol
public import Idealize.ShloMosaic.Lib.Pipeline.ValueKit.Geometry

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The buffers the body works on, whole. -/
abbrev xM : Memref sig .tc .vmem S4096x1024 .i8 := Memref.whole cc0_stg0_0
abbrev wM : Memref sig .tc .hbm S4096x2048 .i8 := Memref.whole main_arg1
abbrev sxM : Memref sig .tc .smem S1 .f32 := Memref.whole cc0_stg1_0
abbrev swM : Memref sig .tc .smem S1 .f32 := Memref.whole cc0_stg2_0
abbrev oM : Memref sig .tc .vmem S1024x2048 .f32 := Memref.whole cc0_stg3_0
abbrev bM : Memref sig .tc .vmem S4x1024x1024 .i8 := Memref.whole cc0_scratch0
abbrev tM : Memref sig .tc .vmem S2x1024x2048 .i8 := Memref.whole cc0_scratch1
abbrev vM : Memref sig .tc .vmem S3x1024x2048 .bf16 := Memref.whole cc0_scratch2

/-! ## Sets of slices -/

theorem xRect_set (c : Dev nD) (j : Ch) {n : ℕ} (hn : len j = n) {o : Fin 2 → ℕ} (ho : o = ![1024 * (dstOf c j).val + off j, 0])
    (inb : ∀ a, o a + (![n, 1024] : Fin 2 → ℕ) a ≤ S4096x1024.size a) :
    (Rect.unit (s := S4096x1024) o ![n, 1024] inb).set = xChunk c j := by
  subst hn ho
  ext i
  rw [Rect.mem_set_unit]
  have h1 : (i 1).val < 1024 := (i 1).isLt
  refine (Fin.forall_fin_two (p := fun a => _)).trans ?_
  unfold xChunk; rw [Finset.mem_filter]
  show (1024 * (dstOf c j).val + off j ≤ (i 0).val ∧ (i 0).val < 1024 * (dstOf c j).val + off j + len j) ∧ (0 ≤ (i 1).val ∧ (i 1).val < 0 + 1024) ↔ _
  constructor
  · exact fun h => ⟨Finset.mem_univ _, h.1⟩
  · exact fun h => ⟨h.2, Nat.zero_le _, by omega⟩

theorem xOwnRect_set (c : Dev nD) {o : Fin 2 → ℕ} (ho : o = ![1024 * c.val, 0])
    (inb : ∀ a, o a + (![1024, 1024] : Fin 2 → ℕ) a ≤ S4096x1024.size a) :
    (Rect.unit (s := S4096x1024) o ![1024, 1024] inb).set = xOwn c := by
  subst ho
  ext i
  rw [Rect.mem_set_unit]
  have h1 : (i 1).val < 1024 := (i 1).isLt
  refine (Fin.forall_fin_two (p := fun a => _)).trans ?_
  unfold xOwn; rw [Finset.mem_filter]
  show (1024 * c.val ≤ (i 0).val ∧ (i 0).val < 1024 * c.val + 1024) ∧ (0 ≤ (i 1).val ∧ (i 1).val < 0 + 1024) ↔ _
  constructor
  · exact fun h => ⟨Finset.mem_univ _, h.1⟩
  · exact fun h => ⟨h.2, Nat.zero_le _, by omega⟩

theorem wRect_set (b : Dev nD) {o : Fin 2 → ℕ} (ho : o = ![1024 * b.val, 0])
    (inb : ∀ a, o a + (![1024, 2048] : Fin 2 → ℕ) a ≤ S4096x2048.size a) :
    (Rect.unit (s := S4096x2048) o ![1024, 2048] inb).set = wBlock b := by
  subst ho
  ext i
  rw [Rect.mem_set_unit]
  have h1 : (i 1).val < 2048 := (i 1).isLt
  refine (Fin.forall_fin_two (p := fun a => _)).trans ?_
  unfold wBlock; rw [Finset.mem_filter]
  show (1024 * b.val ≤ (i 0).val ∧ (i 0).val < 1024 * b.val + 1024) ∧ (0 ≤ (i 1).val ∧ (i 1).val < 0 + 2048) ↔ _
  constructor
  · exact fun h => ⟨Finset.mem_univ _, h.1⟩
  · exact fun h => ⟨h.2, Nat.zero_le _, by omega⟩

theorem forall_fin3 {P : Fin 3 → Prop} : (∀ a, P a) ↔ P 0 ∧ P 1 ∧ P 2 := by
  constructor
  · exact fun h => ⟨h 0, h 1, h 2⟩
  · rintro ⟨h0, h1, h2⟩ a; fin_cases a <;> assumption

theorem bRect_set (c : Dev nD) (j : Ch) {n : ℕ} (hn : len j = n) {p : Fin 3 → ℕ} (hp : p = ![(srcOf c j).val, off j, 0])
    (inb : ∀ a, p a + (![1, n, 1024] : Fin 3 → ℕ) a ≤ S4x1024x1024.size a) :
    (Rect.unit (s := S4x1024x1024) p ![1, n, 1024] inb).set = bChunk c j := by
  subst hn hp
  ext i
  rw [Rect.mem_set_unit]
  have h1 : (i 2).val < 1024 := (i 2).isLt
  refine forall_fin3.trans ?_
  unfold bChunk; rw [Finset.mem_filter]
  show ((srcOf c j).val ≤ (i 0).val ∧ (i 0).val < (srcOf c j).val + 1) ∧ (off j ≤ (i 1).val ∧ (i 1).val < off j + len j)
    ∧ (0 ≤ (i 2).val ∧ (i 2).val < 0 + 1024) ↔ _
  constructor
  · exact fun h => ⟨Finset.mem_univ _, by omega, h.2.1⟩
  · exact fun h => ⟨by omega, h.2.2, Nat.zero_le _, by omega⟩

theorem tRect_set (s : Fin 2) {p : Fin 3 → ℕ} (hp : p = ![s.val, 0, 0])
    (inb : ∀ a, p a + (![1, 1024, 2048] : Fin 3 → ℕ) a ≤ S2x1024x2048.size a) :
    (Rect.unit (s := S2x1024x2048) p ![1, 1024, 2048] inb).set = tSlot s := by
  subst hp
  ext i
  rw [Rect.mem_set_unit]
  have h1 : (i 1).val < 1024 := (i 1).isLt
  have h2 : (i 2).val < 2048 := (i 2).isLt
  refine forall_fin3.trans ?_
  unfold tSlot; rw [Finset.mem_filter]
  show (s.val ≤ (i 0).val ∧ (i 0).val < s.val + 1) ∧ (0 ≤ (i 1).val ∧ (i 1).val < 0 + 1024) ∧ (0 ≤ (i 2).val ∧ (i 2).val < 0 + 2048) ↔ _
  constructor
  · exact fun h => ⟨Finset.mem_univ _, by omega⟩
  · exact fun h => ⟨by omega, by omega, by omega⟩

theorem vRect_set (s : Fin 3) {p : Fin 3 → ℕ} (hp : p = ![s.val, 0, 0])
    (inb : ∀ a, p a + (![1, 1024, 2048] : Fin 3 → ℕ) a ≤ S3x1024x2048.size a) :
    (Rect.unit (s := S3x1024x2048) p ![1, 1024, 2048] inb).set = vSlot s := by
  subst hp
  ext i
  rw [Rect.mem_set_unit]
  have h1 : (i 1).val < 1024 := (i 1).isLt
  have h2 : (i 2).val < 2048 := (i 2).isLt
  refine forall_fin3.trans ?_
  unfold vSlot; rw [Finset.mem_filter]
  show (s.val ≤ (i 0).val ∧ (i 0).val < s.val + 1) ∧ (0 ≤ (i 1).val ∧ (i 1).val < 0 + 1024) ∧ (0 ≤ (i 2).val ∧ (i 2).val < 0 + 2048) ↔ _
  constructor
  · exact fun h => ⟨Finset.mem_univ _, by omega⟩
  · exact fun h => ⟨by omega, by omega, by omega⟩

/-! ## What transfers write -/

/-- The place in a staged slice of a row-and-column index. -/
theorem bSlice_emb {n : ℕ} {p : Fin 3 → ℕ} (inb : ∀ a, p a + (![1, n, 1024] : Fin 3 → ℕ) a ≤ S4x1024x1024.size a)
    (h : ∀ a, (Rect.unit (s := S4x1024x1024) p ![1, n, 1024] inb).stride a = 1)
    (hq : (⟨3, ![1, n, 1024]⟩ : Shape).Squeezes ⟨2, ![n, 1024]⟩) (x : Fin n) (y : Fin 1024) (a : Fin 3) :
    (((bM.slice (Rect.unit (s := S4x1024x1024) p ![1, n, 1024] inb) h).squeeze ⟨2, ![n, 1024]⟩ hq).view.emb (ix2 x y) a : ℕ)
      = p a + (ix3 (⟨0, Nat.one_pos⟩ : Fin 1) x y) a := by
  show ((bM.slice (Rect.unit (s := S4x1024x1024) p ![1, n, 1024] inb) h).view.emb (Shape.reshapeEquiv hq.numel_eq (ix2 x y)) a : ℕ) = _
  rw [reshapeEquiv_ix2_1ab]
  exact ValueKit.view_emb_slice_whole_unit_val cc0_scratch0 p _ inb _ a

theorem tSlice_emb {p : Fin 3 → ℕ} (inb : ∀ a, p a + (![1, 1024, 2048] : Fin 3 → ℕ) a ≤ S2x1024x2048.size a)
    (h : ∀ a, (Rect.unit (s := S2x1024x2048) p ![1, 1024, 2048] inb).stride a = 1)
    (hq : (⟨3, ![1, 1024, 2048]⟩ : Shape).Squeezes ⟨2, ![1024, 2048]⟩) (x : Fin 1024) (y : Fin 2048) (a : Fin 3) :
    (((tM.slice (Rect.unit (s := S2x1024x2048) p ![1, 1024, 2048] inb) h).squeeze ⟨2, ![1024, 2048]⟩ hq).view.emb (ix2 x y) a : ℕ)
      = p a + (ix3 (⟨0, Nat.one_pos⟩ : Fin 1) x y) a := by
  show ((tM.slice (Rect.unit (s := S2x1024x2048) p ![1, 1024, 2048] inb) h).view.emb (Shape.reshapeEquiv hq.numel_eq (ix2 x y)) a : ℕ) = _
  rw [reshapeEquiv_ix2_1ab]
  exact ValueKit.view_emb_slice_whole_unit_val cc0_scratch1 p _ inb _ a

omit [FloatOps F] in
/-- Channel `j` of `c` writes at its destination what the destination's buffer is to hold there. -/
theorem land_x (c : Dev nD) (j : Ch) {n : ℕ} (hn : len j = n) {o : Fin 2 → ℕ} (ho : o = ![1024 * (dstOf c j).val + off j, 0])
    (inb : ∀ a, o a + (![n, 1024] : Fin 2 → ℕ) a ≤ S4096x1024.size a)
    (h : ∀ a, (Rect.unit (s := S4096x1024) o ![n, 1024] inb).stride a = 1)
    {p : Fin 3 → ℕ} (hp : p = ![c.val, off j, 0])
    (inb' : ∀ a, p a + (![1, n, 1024] : Fin 3 → ℕ) a ≤ S4x1024x1024.size a)
    (h' : ∀ a, (Rect.unit (s := S4x1024x1024) p ![1, n, 1024] inb').stride a = 1)
    (hq : (⟨3, ![1, n, 1024]⟩ : Shape).Squeezes ⟨2, ![n, 1024]⟩) (fd : (cc0_scratch0 : Ref sig .tc).ty.Contents (Elt F))
    (i : S4x1024x1024.Idx) (hi : i ∈ bChunk (dstOf c j) j) :
    ((bM.slice (Rect.unit (s := S4x1024x1024) p ![1, n, 1024] inb') h').squeeze ⟨2, ![n, 1024]⟩ hq).view.write (Elt F) fd
      ((xM.slice (Rect.unit (s := S4096x1024) o ![n, 1024] inb) h).view.read (Elt F) (xstg m ρ c)) Finset.univ i
      = landed m ρ (dstOf c j) i := by
  subst hn ho hp
  unfold bChunk at hi; rw [Finset.mem_filter, srcOf_dstOf] at hi
  obtain ⟨-, h0, h1, h2⟩ := hi
  have hx : (i 1).val - off j < len j := by omega
  have hy : (i 2).val < 1024 := (i 2).isLt
  have he : ((bM.slice (Rect.unit (s := S4x1024x1024) ![c.val, off j, 0] ![1, len j, 1024] inb') h').squeeze ⟨2, ![len j, 1024]⟩ hq).view.emb
      (ix2 ⟨(i 1).val - off j, hx⟩ ⟨(i 2).val, hy⟩) = i := by
    funext a; apply Fin.ext; rw [bSlice_emb]
    revert a; refine forall_fin3.mpr ⟨?_, ?_, ?_⟩
    · show c.val + 0 = (i 0).val; omega
    · show off j + ((i 1).val - off j) = (i 1).val; omega
    · show 0 + (i 2).val = (i 2).val; omega
  conv_lhs => rw [← he]
  refine (View.write_emb_of_mem _ _ (Finset.mem_univ _)).trans ?_
  rw [View.read_apply]
  have hd : (⟨(i 0).val, (i 0).isLt⟩ : Dev nD) = c := Fin.ext h0
  unfold landed; rw [hd]
  show xstg m ρ c _ = xstg m ρ c _
  congr 1
  funext a; apply Fin.ext
  refine (ValueKit.view_emb_slice_whole_unit_val cc0_stg0_0 _ _ inb _ a).trans ?_
  revert a; refine (Fin.forall_fin_two (p := fun a => _)).mpr ⟨?_, ?_⟩
  · show 1024 * (dstOf c j).val + off j + ((i 1).val - off j) = 1024 * (dstOf c j).val + (i 1).val; omega
  · show 0 + (i 2).val = (i 2).val; omega

omit [FloatOps F] in
/-- A copy of block `b` of `w` writes in its slot what the slot is to hold. -/
theorem land_w (c b : Dev nD) (s : Fin 2) {o : Fin 2 → ℕ} (ho : o = ![1024 * b.val, 0])
    (inb : ∀ a, o a + (![1024, 2048] : Fin 2 → ℕ) a ≤ S4096x2048.size a)
    (h : ∀ a, (Rect.unit (s := S4096x2048) o ![1024, 2048] inb).stride a = 1)
    {p : Fin 3 → ℕ} (hp : p = ![s.val, 0, 0])
    (inb' : ∀ a, p a + (![1, 1024, 2048] : Fin 3 → ℕ) a ≤ S2x1024x2048.size a)
    (h' : ∀ a, (Rect.unit (s := S2x1024x2048) p ![1, 1024, 2048] inb').stride a = 1)
    (hq : (⟨3, ![1, 1024, 2048]⟩ : Shape).Squeezes ⟨2, ![1024, 2048]⟩) (fd : (cc0_scratch1 : Ref sig .tc).ty.Contents (Elt F))
    (i : S2x1024x2048.Idx) (hi : i ∈ tSlot s) :
    ((tM.slice (Rect.unit (s := S2x1024x2048) p ![1, 1024, 2048] inb') h').squeeze ⟨2, ![1024, 2048]⟩ hq).view.write (Elt F) fd
      ((wM.slice (Rect.unit (s := S4096x2048) o ![1024, 2048] inb) h).view.read (Elt F) (wArr m c)) Finset.univ i
      = wland m c b i := by
  subst ho hp
  unfold tSlot at hi; rw [Finset.mem_filter] at hi
  obtain ⟨-, h0⟩ := hi
  have hx : (i 1).val < 1024 := (i 1).isLt
  have hy : (i 2).val < 2048 := (i 2).isLt
  have he : ((tM.slice (Rect.unit (s := S2x1024x2048) ![s.val, 0, 0] ![1, 1024, 2048] inb') h').squeeze ⟨2, ![1024, 2048]⟩ hq).view.emb
      (ix2 ⟨(i 1).val, hx⟩ ⟨(i 2).val, hy⟩) = i := by
    funext a; apply Fin.ext; rw [tSlice_emb]
    revert a; refine forall_fin3.mpr ⟨?_, ?_, ?_⟩
    · show s.val + 0 = (i 0).val; omega
    · show 0 + (i 1).val = (i 1).val; omega
    · show 0 + (i 2).val = (i 2).val; omega
  conv_lhs => rw [← he]
  refine (View.write_emb_of_mem _ _ (Finset.mem_univ _)).trans ?_
  rw [View.read_apply]
  unfold wland
  show wArr m c _ = wArr m c _
  congr 1
  funext a; apply Fin.ext
  refine (ValueKit.view_emb_slice_whole_unit_val main_arg1 _ _ inb _ a).trans ?_
  revert a; refine (Fin.forall_fin_two (p := fun a => _)).mpr ⟨?_, ?_⟩
  · show 1024 * b.val + (i 1).val = 1024 * b.val + (i 1).val; rfl
  · show 0 + (i 2).val = (i 2).val; omega

end Cert.KernelIdealProof

end
-- ==== Proof.KernelIdealSteps.lean ====
/-
One rule for each kind of step the kernel takes: a departure on a channel, its two waits, a copy of a block of
`w` and its wait, and the loads and stores. Each is stated once, for every channel, slot and device.
-/
module

public import proofs.«01_k».proof.Proof.KernelIdealGeometry

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program of core `c` runs to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem step_done {α : Type} (c : Dev nD) (a : α) (Q : α → sProp 𝕄) : Q a ⊢ Runs c (.ret a) Q := by
  unfold Runs; rw [wp_ret]; iintro H; imodintro; iexact H

theorem step_bind {α β : Type} (c : Dev nD) (p : Prog (TpuEff nD τ sig (Elt F) Λ₀ .tc) α) (k : α → Prog (TpuEff nD τ sig (Elt F) Λ₀ .tc) β)
    (Q : β → sProp 𝕄) : Runs c p (fun a => Runs c (k a) Q) ⊢ Runs c (p >>= k) Q :=
  Entails.of_eq (wp_bind _ _ _ p k Q).symm

omit [FloatOps F] in
theorem keep_left (P Q : sProp 𝕄) : iprop(P ∗ Q) ⊢ P := by iintro ⟨H, -⟩; iexact H
omit [FloatOps F] in
theorem keep_right (P Q : sProp 𝕄) : iprop(P ∗ Q) ⊢ Q := by iintro ⟨-, H⟩; iexact H

/-! ## The records every device shares -/

/-- A device's cells: its barrier, and its thirty transfer semaphores. -/
abbrev CK : Type := Option (Fin 30)

def kcell (k : Dev nD × CK) : GSem nD τ sig :=
  match k.2 with
  | none => barCell k.1
  | some i => ownCell k.1 i

variable (K : Dev nD × CK → ℕ)

/-- Every cell's invariant, under the names `K`, and that its round `0` has been reached. -/
def recs : sProp 𝕄 :=
  bigSep Finset.univ fun k : Dev nD × CK => iprop(cellInv ER (Rd (F := F) m ρ) (K k) (kcell k) ∗ reached ER (kcell k) 0)

instance recs_persistent : BI.Persistent (recs (F := F) m ρ K) := by unfold recs; infer_instance

theorem recs_inv (k : Dev nD × CK) : recs (F := F) m ρ K ⊢ cellInv ER (Rd (F := F) m ρ) (K k) (kcell k) := by
  unfold recs
  exact (bigSep_elim (Finset.mem_univ k)).trans (keep_left _ _)

theorem recs_reached (k : Dev nD × CK) : recs (F := F) m ρ K ⊢ reached ER (kcell k) 0 := by
  unfold recs
  exact (bigSep_elim (Finset.mem_univ k)).trans (keep_right _ _)

/-- What core `c` owes, whatever it has waited for. -/
def own (c : Dev nD) (O : CellTallies nD τ sig Unit) : sProp 𝕄 := iprop(∃ W, owes (c : Thread nD τ) O W)

/-- The place of each channel in the order of departures, and the channels among the first `k`. -/
def pos : Ch → ℕ := ![0, 3, 6, 9, 1, 4, 7, 10, 12, 13, 2, 5, 8, 11]
def left (k : ℕ) : Finset Ch := Finset.univ.filter fun j => pos j < k

theorem pos_inj (i j : Ch) : pos i = pos j → i = j := by revert i j; decide

theorem left_succ (j : Ch) : left (pos j + 1) = insert j (left (pos j)) := by
  ext i
  simp only [left, Finset.mem_filter, Finset.mem_univ, true_and, Finset.mem_insert, Nat.lt_succ_iff_lt_or_eq]
  exact ⟨fun h => h.elim .inr fun h => .inl (pos_inj i j h), fun h => h.elim (fun h => .inr (congrArg pos h)) .inl⟩

/-- What core `c` still owes once the first `k` channels have departed. -/
def owing (c : Dev nD) (k : ℕ) : sProp 𝕄 := own c (owedTo c (left k))

omit [FloatOps F] in
theorem owing_all (c : Dev nD) : owing (F := F) c 14 = own c 0 := by
  unfold owing; rw [show left 14 = Finset.univ by decide, owedTo_univ]

/-! ## Departures -/

/-- All that a departure on channel `j` uses up. -/
def ready (c : Dev nD) (j : Ch) : sProp 𝕄 :=
  iprop(xPts m ρ c (xChunk c j) ∗ room (F := F) (dstOf c j) j ∗ dutyTok ER (sndCell c j) 0 (0 : Du) ∗ dutyTok ER (rcvCell (dstOf c j) j) 0 (0 : Du)
    ∗ atPos ER (sndCell c j) 0 ∅ 0)

/-- Channel `j` after its departure, and after its return. -/
def fly (c : Dev nD) (j : Ch) : sProp 𝕄 := iprop(cred (tallyAt (sndCell c j) () (credN (len j))) ∗ atPos ER (sndCell c j) 0 ∅ 0)
def home (c : Dev nD) (j : Ch) : sProp 𝕄 := iprop(xPts m ρ c (xChunk c j) ∗ atPos ER (sndCell c j) 1 ∅ 0)

/-- Channel `j` before its arrival, and after it. -/
def due (c : Dev nD) (j : Ch) : sProp 𝕄 := iprop(cred (tallyAt (rcvCell c j) () (credN (len j))) ∗ atPos ER (rcvCell c j) 0 ∅ 0)
def got (c : Dev nD) (j : Ch) : sProp 𝕄 := iprop(bPts c (bChunk c j) (landed m ρ c) ∗ atPos ER (rcvCell c j) 1 ∅ 0)

/-- Slot `s` of the staging of `w` free for its round `r`, what that round's copy needs, the copy under way, and the
    slot holding what it brought. -/
def idle (c : Dev nD) (s : Fin 2) (r : ℕ) : sProp 𝕄 :=
  iprop((∃ f, tPts (F := F) c s f) ∗ atPos ER (wcpCell c s) r ∅ 0 ∗ reached ER (wcpCell c s) r)
def need (c : Dev nD) (s : Fin 2) (r : ℕ) : sProp 𝕄 := iprop(wPts m c (wBlk c s r) ∗ dutyTok ER (wcpCell c s) r (0 : Du))
def wfly (c : Dev nD) (s : Fin 2) (r : ℕ) : sProp 𝕄 := iprop(cred (tallyAt (wcpCell c s) () credW) ∗ atPos ER (wcpCell c s) r ∅ 0)
def here (c : Dev nD) (s : Fin 2) (r : ℕ) : sProp 𝕄 :=
  iprop(tPts c s (wland m c (wBlk c s r)) ∗ atPos ER (wcpCell c s) (r + 1) ∅ 0 ∗ reached ER (wcpCell c s) (r + 1))

theorem step_send (c : Dev nD) (j : Ch) {n : ℕ} (hn : len j = n) {nd : Dev nD} (hnd : nd = dstOf c j)
    {o : Fin 2 → ℕ} (ho : o = ![1024 * (dstOf c j).val + off j, 0])
    {inb : ∀ a, o a + (![n, 1024] : Fin 2 → ℕ) a ≤ S4096x1024.size a}
    {h : ∀ a, (Rect.unit (s := S4096x1024) o ![n, 1024] inb).stride a = 1}
    {p : Fin 3 → ℕ} (hp : p = ![c.val, off j, 0])
    {inb' : ∀ a, p a + (![1, n, 1024] : Fin 3 → ℕ) a ≤ S4x1024x1024.size a}
    {h' : ∀ a, (Rect.unit (s := S4x1024x1024) p ![1, n, 1024] inb').stride a = 1}
    {hq : (⟨3, ![1, n, 1024]⟩ : Shape).Squeezes ⟨2, ![n, 1024]⟩}
    {sS rS : DmaSem sig} (hs : sS = sndS j) (hr : rS = rcvS j)
    {hsc : ((bM.slice (Rect.unit (s := S4x1024x1024) p ![1, n, 1024] inb') h').squeeze ⟨2, ![n, 1024]⟩ hq
      : Memref sig (Dev.tc nd : Thread nD τ).2.kind .vmem ⟨2, ![n, 1024]⟩ .i8).view.ref.isScScratch = false}
    {hsrc : (xM.slice (Rect.unit (s := S4096x1024) o ![n, 1024] inb) h).view.WordExact}
    {hdst : ((bM.slice (Rect.unit (s := S4x1024x1024) p ![1, n, 1024] inb') h').squeeze ⟨2, ![n, 1024]⟩ hq).view.WordExact}
    {hsem : DmaTarget.Typed .vmem (.dma rS) (.remote (Dev.tc nd : Thread nD τ) ((bM.slice (Rect.unit (s := S4x1024x1024) p ![1, n, 1024] inb') h').squeeze ⟨2, ![n, 1024]⟩ hq) (.dma sS) hsc)}
    (d : ℕ) (hd : pos j = d)
    {α : Type} {Q : α → sProp 𝕄} {k : PUnit → Prog (TpuEff nD τ sig (Elt F) Λ₀ .tc) α} :
    recs m ρ K ⊢ iprop(ready m ρ c j -∗ owing c d
      -∗ ((fly c j ∗ owing c (d + 1)) -∗ Runs c (k ⟨⟩) Q)
      -∗ Runs c (.op (.enqueueDma (xM.slice (Rect.unit (s := S4096x1024) o ![n, 1024] inb) h)
            (.remote (Dev.tc nd : Thread nD τ) ((bM.slice (Rect.unit (s := S4x1024x1024) p ![1, n, 1024] inb') h').squeeze ⟨2, ![n, 1024]⟩ hq) (.dma sS) hsc)
            (.dma rS) hsrc hdst hsem) k) Q) := by
  subst hnd hs hr hd
  have hx := xRect_set c j hn ho inb
  have hb := bRect_set (dstOf c j) j hn (p := p) (by rw [srcOf_dstOf]; exact hp) inb'
  have hxs : (xM.slice (Rect.unit (s := S4096x1024) o ![n, 1024] inb) h).view.set = xChunk c j := (View.set_slice_whole _ _).trans hx
  have hbs : ((bM.slice (Rect.unit (s := S4x1024x1024) p ![1, n, 1024] inb') h').squeeze ⟨2, ![n, 1024]⟩ hq).view.set = bChunk (dstOf c j) j :=
    (Memref.set_view_squeeze _ _).trans ((View.set_slice_whole _ _).trans hb)
  iintro #HI
  unfold ready room owing own fly xPts bPts
  iintro ⟨Hx, ⟨%fd, Hb⟩, HtS, HtR, Ha⟩ ⟨%W, HO⟩ Hk
  ihave #Hi1 := (recs_inv m ρ K (c, some (sndI j))) $$ HI
  ihave #Hi2 := (recs_inv m ρ K (dstOf c j, some (rcvI j))) $$ HI
  ihave #Hr1 := (recs_reached m ρ K (c, some (sndI j))) $$ HI
  ihave #Hr2 := (recs_reached m ρ K (dstOf c j, some (rcvI j))) $$ HI
  iapply (Rounds.wp_send_pointsTo 𝒱₀ ER (Rd (F := F) m ρ) (c : Thread nD τ) none (κ₁ := K (c, some (sndI j))) (κ₂ := K (dstOf c j, some (rcvI j)))
    (c' := (dstOf c j : Thread nD τ))
    (r₁ := 0) (r₂ := 0) (d₁ := (0 : Du)) (d₂ := (0 : Du)) (fs := xstg m ρ c) (fd := fd)
    (by rw [duties_snd]; exact Finset.mem_singleton_self _) (by rw [duties_rcv]; exact Finset.mem_singleton_self _)
    () () (credN (len j)) (by subst hn; rfl) (amount_snd m ρ c j 0 0) (amount_rcv m ρ (dstOf c j) j 0 0) (owedTo c (left (pos j + 1)))
    ((owedTo_insert c (left (pos j)) j (by simp [left])).trans (by rw [← left_succ])) (W := W)
    (by rw [payload_snd, hxs]; exact BI.Entails.refl _)
    (by
      rw [payload_rcv, hbs]
      unfold rcvPay bPts
      exact Entails.of_eq (pointsTo_congr fun i hi => land_x m ρ c j hn ho inb h hp inb' h' hq fd i hi))) $$ [Hx Hb HO HtS HtR]
  · isplitr; · iexact Hi1
    isplitr; · iexact Hi2
    isplitl [Hx]; · rw [hxs]; iexact Hx
    isplitl [Hb]; · rw [hbs]; iexact Hb
    isplitl [HO]; · iexact HO
    isplitl [HtS]; · iexact HtS
    isplitr; · iexact Hr1
    isplitl [HtR]; · iexact HtR
    iexact Hr2
  iintro ⟨Hc, HO⟩
  iapply Hk
  isplitl [Hc Ha]
  · isplitl [Hc]; · iexact Hc
    iexact Ha
  iexists W; iexact HO

/-! ## Waits -/

theorem step_wait_snd (c : Dev nD) (j : Ch) {sS : DmaSem sig} (hs : sS = sndS j) {sp sp' : Space} {s s' : Shape} {e e' : EltTy} {κ' : Kind}
    {src : Memref sig .tc sp' s' e'} {dst : Memref sig κ' sp s e} {hsrc : src.view.WordExact} {hdst : dst.view.WordExact}
    (hcr : dst.view.dmaCredit = credN (len j))
    {α : Type} {Q : α → sProp 𝕄} {k : PUnit → Prog (TpuEff nD τ sig (Elt F) Λ₀ .tc) α} :
    recs m ρ K ⊢ iprop(fly c j -∗ own c 0
      -∗ ((home m ρ c j ∗ own c 0) -∗ Runs c (k ⟨⟩) Q)
      -∗ Runs c (.op (.waitDma2 sS src dst hsrc hdst) k) Q) := by
  subst hs
  iintro #HI
  unfold own fly home
  iintro ⟨Hc, Ha⟩ ⟨%W, HO⟩ Hk
  ihave #Hi1 := (recs_inv m ρ K (c, some (sndI j))) $$ HI
  iapply (Rounds.wp_wait_rest_token 𝒱₀ ER (Rd (F := F) m ρ) (c : Thread nD τ) none (κ := K (c, some (sndI j)))
      (wpE_waitDma2_eq 𝒱₀ (c : Thread nD τ) none Set.univ) (Set.mem_univ _) () (O := 0) (W := W) (R := 0) (m := 0) (T := ∅)
      (by rw [Nat.zero_add, hcr]; exact (expect_snd m ρ c j).symm)) $$ [Hc HO Ha]
  · isplitr; · iexact Hi1
    isplitl [Hc]; · rw [hcr]; iexact Hc
    isplitl [HO]; · iexact HO
    isplitr; · rw [MayWait_zero]; iempintro
    iexact Ha
  iintro ⟨HO, Ha, -, Hp⟩
  ihave Hx := (Entails.of_eq (rest_snd m ρ c j)) $$ Hp
  iapply Hk
  isplitl [Hx Ha]
  · isplitl [Hx]; · unfold sndPay; iexact Hx
    iexact Ha
  iexists (insert (SemLoc.dma (sndS j), ()) W); iexact HO

theorem step_wait_rcv (c : Dev nD) (j : Ch) {sS : DmaSem sig} (hs : sS = rcvS j) {sp sp' : Space} {s s' : Shape} {e e' : EltTy} {κ' : Kind}
    {src : Memref sig .tc sp' s' e'} {dst : Memref sig κ' sp s e} {hsrc : src.view.WordExact} {hdst : dst.view.WordExact}
    (hcr : dst.view.dmaCredit = credN (len j))
    {α : Type} {Q : α → sProp 𝕄} {k : PUnit → Prog (TpuEff nD τ sig (Elt F) Λ₀ .tc) α} :
    recs m ρ K ⊢ iprop(due c j -∗ own c 0
      -∗ ((got m ρ c j ∗ own c 0) -∗ Runs c (k ⟨⟩) Q)
      -∗ Runs c (.op (.waitDma2 sS src dst hsrc hdst) k) Q) := by
  subst hs
  iintro #HI
  unfold own due got
  iintro ⟨Hc, Ha⟩ ⟨%W, HO⟩ Hk
  ihave #Hi1 := (recs_inv m ρ K (c, some (rcvI j))) $$ HI
  iapply (Rounds.wp_wait_rest_token 𝒱₀ ER (Rd (F := F) m ρ) (c : Thread nD τ) none (κ := K (c, some (rcvI j)))
      (wpE_waitDma2_eq 𝒱₀ (c : Thread nD τ) none Set.univ) (Set.mem_univ _) () (O := 0) (W := W) (R := 0) (m := 0) (T := ∅)
      (by rw [Nat.zero_add, hcr]; exact (expect_rcv m ρ c j).symm)) $$ [Hc HO Ha]
  · isplitr; · iexact Hi1
    isplitl [Hc]; · rw [hcr]; iexact Hc
    isplitl [HO]; · iexact HO
    isplitr; · rw [MayWait_zero]; iempintro
    iexact Ha
  iintro ⟨HO, Ha, -, Hp⟩
  ihave Hx := (Entails.of_eq (rest_rcv m ρ c j)) $$ Hp
  iapply Hk
  isplitl [Hx Ha]
  · isplitl [Hx]; · unfold rcvPay; iexact Hx
    iexact Ha
  iexists (insert (SemLoc.dma (rcvS j), ()) W); iexact HO

theorem step_wait_w (c : Dev nD) (s : Fin 2) (r : ℕ) (hr : r < 2) {sS : DmaSem sig} (hs : sS = wcpS s)
    {sp sp' : Space} {s₁ s' : Shape} {e e' : EltTy} {κ' : Kind}
    {src : Memref sig .tc sp' s' e'} {dst : Memref sig κ' sp s₁ e} {hsrc : src.view.WordExact} {hdst : dst.view.WordExact}
    (hcr : dst.view.dmaCredit = credW)
    {α : Type} {Q : α → sProp 𝕄} {k : PUnit → Prog (TpuEff nD τ sig (Elt F) Λ₀ .tc) α} :
    recs m ρ K ⊢ iprop(wfly c s r -∗ own c 0
      -∗ ((here m c s r ∗ wPts m c (wBlk c s r) ∗ own c 0)
          -∗ Runs c (k ⟨⟩) Q)
      -∗ Runs c (.op (.waitDma2 sS src dst hsrc hdst) k) Q) := by
  subst hs
  iintro #HI
  unfold own wfly here
  iintro ⟨Hc, Ha⟩ ⟨%W, HO⟩ Hk
  ihave #Hi1 := (recs_inv m ρ K (c, some (wcpI s))) $$ HI
  iapply (Rounds.wp_wait_rest_token 𝒱₀ ER (Rd (F := F) m ρ) (c : Thread nD τ) none (κ := K (c, some (wcpI s)))
      (wpE_waitDma2_eq 𝒱₀ (c : Thread nD τ) none Set.univ) (Set.mem_univ _) () (O := 0) (W := W) (R := r) (m := 0) (T := ∅)
      (by rw [Nat.zero_add, hcr]; exact (expect_wcp m ρ c s r hr).symm)) $$ [Hc HO Ha]
  · isplitr; · iexact Hi1
    isplitl [Hc]; · rw [hcr]; iexact Hc
    isplitl [HO]; · iexact HO
    isplitr; · rw [MayWait_zero]; iempintro
    iexact Ha
  iintro ⟨HO, Ha, Hr, Hp⟩
  ihave Hx := (Entails.of_eq (rest_wcp m ρ c s r hr)) $$ Hp
  unfold wcpPay
  icases Hx with ⟨Ht, Hw⟩
  iapply Hk
  isplitl [Ht Ha Hr]
  · isplitl [Ht]; · iexact Ht
    isplitl [Ha]; · iexact Ha
    iexact Hr
  isplitl [Hw]; · iexact Hw
  iexists (insert (SemLoc.dma (wcpS s), ()) W); iexact HO

/-! ## Copies of `w` -/

theorem step_copy (c : Dev nD) (s : Fin 2) (r : ℕ) (hr : r < 2)
    {o : Fin 2 → ℕ} (ho : o = ![1024 * (wBlk c s r).val, 0])
    {inb : ∀ a, o a + (![1024, 2048] : Fin 2 → ℕ) a ≤ S4096x2048.size a}
    {h : ∀ a, (Rect.unit (s := S4096x2048) o ![1024, 2048] inb).stride a = 1}
    {p : Fin 3 → ℕ} (hp : p = ![s.val, 0, 0])
    {inb' : ∀ a, p a + (![1, 1024, 2048] : Fin 3 → ℕ) a ≤ S2x1024x2048.size a}
    {h' : ∀ a, (Rect.unit (s := S2x1024x2048) p ![1, 1024, 2048] inb').stride a = 1}
    {hq : (⟨3, ![1, 1024, 2048]⟩ : Shape).Squeezes ⟨2, ![1024, 2048]⟩}
    {sS : DmaSem sig} (hs : sS = wcpS s)
    {hsrc : (wM.slice (Rect.unit (s := S4096x2048) o ![1024, 2048] inb) h).view.WordExact}
    {hdst : ((tM.slice (Rect.unit (s := S2x1024x2048) p ![1, 1024, 2048] inb') h').squeeze ⟨2, ![1024, 2048]⟩ hq).view.WordExact}
    {hsem : DmaTarget.Typed .hbm (.dma sS) (DmaTarget.here ((tM.slice (Rect.unit (s := S2x1024x2048) p ![1, 1024, 2048] inb') h').squeeze ⟨2, ![1024, 2048]⟩ hq)
      : DmaTarget nD τ sig Proc.tc .vmem ⟨2, ![1024, 2048]⟩ .i8)}
    {α : Type} {Q : α → sProp 𝕄} {k : PUnit → Prog (TpuEff nD τ sig (Elt F) Λ₀ .tc) α} :
    recs m ρ K ⊢ iprop(idle c s r -∗ need m c s r
      -∗ (wfly c s r -∗ Runs c (k ⟨⟩) Q)
      -∗ Runs c (.op (.enqueueDma (wM.slice (Rect.unit (s := S4096x2048) o ![1024, 2048] inb) h)
            (.here ((tM.slice (Rect.unit (s := S2x1024x2048) p ![1, 1024, 2048] inb') h').squeeze ⟨2, ![1024, 2048]⟩ hq))
            (.dma sS) hsrc hdst hsem) k) Q) := by
  subst hs
  have hws : (wM.slice (Rect.unit (s := S4096x2048) o ![1024, 2048] inb) h).view.set = wBlock (wBlk c s r) :=
    (View.set_slice_whole _ _).trans (wRect_set _ ho inb)
  have hts : ((tM.slice (Rect.unit (s := S2x1024x2048) p ![1, 1024, 2048] inb') h').squeeze ⟨2, ![1024, 2048]⟩ hq).view.set = tSlot s :=
    (Memref.set_view_squeeze _ _).trans ((View.set_slice_whole _ _).trans (tRect_set s hp inb'))
  iintro #HI
  unfold idle need wfly wPts tPts
  iintro ⟨⟨%fd, Ht⟩, Ha, Hr⟩ ⟨Hw, Htk⟩ Hk
  ihave #Hi1 := (recs_inv m ρ K (c, some (wcpI s))) $$ HI
  iapply (Rounds.wp_copy_pointsTo 𝒱₀ ER (Rd (F := F) m ρ) (c : Thread nD τ) none (κ := K (c, some (wcpI s)))
    (r := r) (d := (0 : Du)) (fs := wArr m c) (fd := fd)
    (by rw [duties_wcp m ρ c s r hr]; exact Finset.mem_singleton_self _) () credW rfl (amount_wcp m ρ c s r 0)
    (by
      rw [payload_wcp, hts, hws]
      unfold wcpPay tPts wPts
      exact sep_mono_left (Entails.of_eq (pointsTo_congr fun i hi => land_w m c (wBlk c s r) s ho inb h hp inb' h' hq fd i hi)))) $$ [Hw Ht Htk Hr]
  · isplitr; · iexact Hi1
    isplitl [Hw]; · rw [hws]; iexact Hw
    isplitl [Ht]; · rw [hts]; iexact Ht
    isplitl [Htk]; · iexact Htk
    iexact Hr
  iintro Hc
  iapply Hk
  isplitl [Hc]; · iexact Hc
  iexact Ha

/-! ## Loads and stores -/

/-- A block of `w`, as one staging slot holds it. -/
def wVec (c b : Dev nD) : Vec F S1x1024x2048 .i8 := fun i =>
  wArr m c (ix2 (n0 := 4096) (n1 := 2048) ⟨1024 * b.val + (i 1).val, by
    have h1 : (i 1).val < 1024 := (i 1).isLt
    have h2 : b.val < 4 := b.isLt
    omega⟩ ⟨(i 2).val, (i 2).isLt⟩)

/-- The rows of `x` that device `d` holds for device `c`, from row `a` on. -/
def rows (d c : Dev nD) (a n : ℕ) (h : a + n ≤ 1024) : Vec F (⟨3, ![1, n, 1024]⟩ : Shape) .i8 := fun i =>
  xstg m ρ d (ix2 (n0 := 4096) (n1 := 1024) ⟨1024 * c.val + (a + (i 1).val), by
    have h1 : (i 1).val < n := (i 1).isLt
    have h2 : c.val < 4 := c.isLt
    omega⟩ ⟨(i 2).val, (i 2).isLt⟩)

/-- The rows of `x` device `c` keeps. -/
def xVec (c : Dev nD) : Vec F S1024x1024 .i8 := fun i =>
  xstg m ρ c (ix2 (n0 := 4096) (n1 := 1024) ⟨1024 * c.val + (i 0).val, by
    have h1 : (i 0).val < 1024 := (i 0).isLt
    have h2 : c.val < 4 := c.isLt
    omega⟩ ⟨(i 1).val, (i 1).isLt⟩)

/-- Slot `s` of the converted blocks holding `w`. -/
def vPts (c : Dev nD) (s : Fin 3) (w : Vec F S1x1024x2048 .bf16) : sProp 𝕄 :=
  ((c : Thread nD τ).loc cc0_scratch2) ↦[vSlot s]{fullShare}
    (fun i => w (ix3 (⟨0, Nat.one_pos⟩ : Fin 1) ⟨(i 1).val, (i 1).isLt⟩ ⟨(i 2).val, (i 2).isLt⟩) : (cc0_scratch2 : Ref sig .tc).ty.Contents (Elt F))

/-- The result staging buffer. -/
def oPts (c : Dev nD) (f : Vec F S1024x2048 .f32) : sProp 𝕄 := ((c : Thread nD τ).loc cc0_stg3_0) ↦{fullShare} (f : (cc0_stg3_0 : Ref sig .tc).ty.Contents (Elt F))

theorem step_load_t (c : Dev nD) (s : Fin 2) (r : ℕ) {p : Fin 3 → ℕ} (hp : p = ![s.val, 0, 0])
    {inb : ∀ a, p a + (![1, 1024, 2048] : Fin 3 → ℕ) a ≤ S2x1024x2048.size a}
    {hl : tM.view.LoadsAt (Rect.unit (s := S2x1024x2048) p ![1, 1024, 2048] inb).toLoadRect}
    {α : Type} {Q : α → sProp 𝕄} {k : Vec F S1x1024x2048 .i8 → Prog (TpuEff nD τ sig (Elt F) Λ₀ .tc) α} :
    here (F := F) m c s r ⊢ iprop((idle (F := F) c s (r + 1) -∗ Runs c (k (wVec m c (wBlk c s r))) Q)
      -∗ Runs c (.op (.load tM (Rect.unit (s := S2x1024x2048) p ![1, 1024, 2048] inb).toLoadRect hl) k) Q) := by
  generalize hb : wBlk c s r = b
  have hv : (tM.access (Rect.unit (s := S2x1024x2048) p ![1, 1024, 2048] inb)).read (Elt F) (wland m c b) = wVec m c b := by
    subst hp
    funext i
    rw [View.read_apply]
    show wland m c b _ = _
    unfold wland wVec
    congr 1
    funext a; apply Fin.ext
    revert a; refine (Fin.forall_fin_two (p := fun a => _)).mpr ⟨?_, ?_⟩
    · show 1024 * b.val + _ = 1024 * b.val + _
      congr 1
      exact (ValueKit.view_emb_slice_whole_unit_val cc0_scratch1 _ _ inb i 1).trans (Nat.zero_add _)
    · exact (ValueKit.view_emb_slice_whole_unit_val cc0_scratch1 _ _ inb i 2).trans (Nat.zero_add _)
  unfold here idle tPts
  rw [hb]
  iintro ⟨Ht, Ha⟩ Hk
  iapply (wp_load_rect 𝒱₀ (c : Thread nD τ) none Set.univ (m := tM) (r := Rect.unit (s := S2x1024x2048) p ![1, 1024, 2048] inb)
    (subset_of_eq ((View.set_slice_whole _ _).trans (tRect_set s hp inb)))) $$ Ht
  iintro Ht
  rw [hv]
  iapply Hk
  isplitl [Ht]; · iexists _; iexact Ht
  iexact Ha

theorem step_load_b (c d : Dev nD) (j : Ch) {n : ℕ} (hn : len j = n) (hd : d = srcOf c j) (a : ℕ) (ha : a = off j) (hb : a + n ≤ 1024)
    {p : Fin 3 → ℕ} (hp : p = ![d.val, a, 0])
    {inb : ∀ a, p a + (![1, n, 1024] : Fin 3 → ℕ) a ≤ S4x1024x1024.size a}
    {hl : bM.view.LoadsAt (Rect.unit (s := S4x1024x1024) p ![1, n, 1024] inb).toLoadRect}
    {α : Type} {Q : α → sProp 𝕄} {k : Vec F (⟨3, ![1, n, 1024]⟩ : Shape) .i8 → Prog (TpuEff nD τ sig (Elt F) Λ₀ .tc) α} :
    got (F := F) m ρ c j ⊢ iprop((got m ρ c j -∗ Runs c (k (rows m ρ d c a n hb)) Q)
      -∗ Runs c (.op (.load bM (Rect.unit (s := S4x1024x1024) p ![1, n, 1024] inb).toLoadRect hl) k) Q) := by
  have hv : (bM.access (Rect.unit (s := S4x1024x1024) p ![1, n, 1024] inb)).read (Elt F) (landed m ρ c) = rows m ρ d c a n hb := by
    subst hp
    funext i
    rw [View.read_apply]
    show landed m ρ c _ = _
    unfold landed rows
    have h0 : (((bM.access (Rect.unit (s := S4x1024x1024) ![d.val, a, 0] ![1, n, 1024] inb)).emb i 0 : Fin _) : ℕ) = d.val := by
      refine (ValueKit.view_emb_slice_whole_unit_val cc0_scratch0 _ _ inb i 0).trans ?_
      have : (i 0).val < 1 := (i 0).isLt
      show d.val + (i 0).val = d.val; omega
    have h1 := ValueKit.view_emb_slice_whole_unit_val cc0_scratch0 ![d.val, a, 0] ![1, n, 1024] inb i 1
    have h2 := ValueKit.view_emb_slice_whole_unit_val cc0_scratch0 ![d.val, a, 0] ![1, n, 1024] inb i 2
    rw [show (⟨(((bM.access (Rect.unit (s := S4x1024x1024) ![d.val, a, 0] ![1, n, 1024] inb)).emb i 0 : Fin _) : ℕ), Fin.isLt _⟩ : Dev nD) = d from Fin.ext h0]
    congr 1
    funext a'; apply Fin.ext
    revert a'; refine (Fin.forall_fin_two (p := fun a => _)).mpr ⟨?_, ?_⟩
    · exact congrArg (1024 * c.val + ·) h1
    · exact h2.trans (Nat.zero_add _)
  unfold got bPts
  iintro ⟨Ht, Ha⟩ Hk
  iapply (wp_load_rect 𝒱₀ (c : Thread nD τ) none Set.univ (m := bM) (r := Rect.unit (s := S4x1024x1024) p ![1, n, 1024] inb)
    (subset_of_eq ((View.set_slice_whole _ _).trans (bRect_set c j hn (by rw [hp, hd, ha]) inb)))) $$ Ht
  iintro Ht
  rw [hv]
  iapply Hk
  isplitl [Ht]; · iexact Ht
  iexact Ha

theorem step_load_x (c : Dev nD) {o : Fin 2 → ℕ} (ho : o = ![1024 * c.val, 0])
    {inb : ∀ a, o a + (![1024, 1024] : Fin 2 → ℕ) a ≤ S4096x1024.size a}
    {hl : xM.view.LoadsAt (Rect.unit (s := S4096x1024) o ![1024, 1024] inb).toLoadRect}
    {α : Type} {Q : α → sProp 𝕄} {k : Vec F S1024x1024 .i8 → Prog (TpuEff nD τ sig (Elt F) Λ₀ .tc) α} :
    xPts (F := F) m ρ c (xOwn c) ⊢ iprop((xPts m ρ c (xOwn c) -∗ Runs c (k (xVec m ρ c)) Q)
      -∗ Runs c (.op (.load xM (Rect.unit (s := S4096x1024) o ![1024, 1024] inb).toLoadRect hl) k) Q) := by
  have hv : (xM.access (Rect.unit (s := S4096x1024) o ![1024, 1024] inb)).read (Elt F) (xstg m ρ c) = xVec m ρ c := by
    subst ho
    funext i
    rw [View.read_apply]
    show xstg m ρ c _ = xstg m ρ c _
    congr 1
    funext a; apply Fin.ext
    refine (ValueKit.view_emb_slice_whole_unit_val cc0_stg0_0 _ _ inb i a).trans ?_
    revert a; refine (Fin.forall_fin_two (p := fun a => _)).mpr ⟨?_, ?_⟩
    · rfl
    · exact Nat.zero_add _
  iintro Ht Hk
  unfold xPts
  iapply (wp_load_rect 𝒱₀ (c : Thread nD τ) none Set.univ (m := xM) (r := Rect.unit (s := S4096x1024) o ![1024, 1024] inb)
    (subset_of_eq ((View.set_slice_whole _ _).trans (xOwnRect_set c ho inb)))) $$ Ht
  iintro Ht
  rw [hv]
  iapply Hk; iexact Ht

theorem v_emb {s : Fin 3} {p : Fin 3 → ℕ} (hp : p = ![s.val, 0, 0]) (inb : ∀ a, p a + (![1, 1024, 2048] : Fin 3 → ℕ) a ≤ S3x1024x2048.size a)
    (i : S1x1024x2048.Idx) : (((vM.access (Rect.unit (s := S3x1024x2048) p ![1, 1024, 2048] inb)).emb i 1 : Fin _) : ℕ) = (i 1).val
      ∧ (((vM.access (Rect.unit (s := S3x1024x2048) p ![1, 1024, 2048] inb)).emb i 2 : Fin _) : ℕ) = (i 2).val := by
  subst hp
  exact ⟨(ValueKit.view_emb_slice_whole_unit_val cc0_scratch2 _ _ inb i 1).trans (Nat.zero_add _),
    (ValueKit.view_emb_slice_whole_unit_val cc0_scratch2 _ _ inb i 2).trans (Nat.zero_add _)⟩

omit [FloatOps F] in
theorem v_idx {s : Fin 3} {p : Fin 3 → ℕ} (hp : p = ![s.val, 0, 0]) (inb : ∀ a, p a + (![1, 1024, 2048] : Fin 3 → ℕ) a ≤ S3x1024x2048.size a)
    (i : S1x1024x2048.Idx) (w : Vec F S1x1024x2048 .bf16) (q : S3x1024x2048.Idx)
    (hq : (vM.access (Rect.unit (s := S3x1024x2048) p ![1, 1024, 2048] inb)).emb i = q) :
    w (ix3 (⟨0, Nat.one_pos⟩ : Fin 1) ⟨(q 1).val, (q 1).isLt⟩ ⟨(q 2).val, (q 2).isLt⟩) = w i := by
  subst hq
  obtain ⟨h1, h2⟩ := v_emb hp inb i
  congr 1
  funext a; apply Fin.ext
  revert a; refine forall_fin3.mpr ⟨?_, h1, h2⟩
  have : (i 0).val < 1 := (i 0).isLt
  show 0 = (i 0).val; omega

theorem step_load_v (c : Dev nD) (s : Fin 3) (w : Vec F S1x1024x2048 .bf16) {p : Fin 3 → ℕ} (hp : p = ![s.val, 0, 0])
    {inb : ∀ a, p a + (![1, 1024, 2048] : Fin 3 → ℕ) a ≤ S3x1024x2048.size a}
    {hl : vM.view.LoadsAt (Rect.unit (s := S3x1024x2048) p ![1, 1024, 2048] inb).toLoadRect}
    {α : Type} {Q : α → sProp 𝕄} {k : Vec F S1x1024x2048 .bf16 → Prog (TpuEff nD τ sig (Elt F) Λ₀ .tc) α} :
    vPts (F := F) c s w ⊢ iprop((vPts c s w -∗ Runs c (k w) Q)
      -∗ Runs c (.op (.load vM (Rect.unit (s := S3x1024x2048) p ![1, 1024, 2048] inb).toLoadRect hl) k) Q) := by
  iintro Ht Hk
  unfold vPts
  iapply (wp_load_rect 𝒱₀ (c : Thread nD τ) none Set.univ (m := vM) (r := Rect.unit (s := S3x1024x2048) p ![1, 1024, 2048] inb)
    (subset_of_eq ((View.set_slice_whole _ _).trans (vRect_set s hp inb)))) $$ Ht
  iintro Ht
  rw [show (vM.access (Rect.unit (s := S3x1024x2048) p ![1, 1024, 2048] inb)).read (Elt F)
    (fun i => w (ix3 (⟨0, Nat.one_pos⟩ : Fin 1) ⟨(i 1).val, (i 1).isLt⟩ ⟨(i 2).val, (i 2).isLt⟩) : (cc0_scratch2 : Ref sig .tc).ty.Contents (Elt F)) = w
    from funext fun i => (View.read_apply _ _).trans (v_idx hp inb i w _ rfl)]
  iapply Hk; iexact Ht

/-- A load of a slot about to be overwritten, of whatever contents. -/
theorem step_skip_v (c : Dev nD) (s : Fin 3) {p : Fin 3 → ℕ} (hp : p = ![s.val, 0, 0])
    {inb : ∀ a, p a + (![1, 1024, 2048] : Fin 3 → ℕ) a ≤ S3x1024x2048.size a}
    {inb' : ∀ a, p a + (![1, 1024, 2048] : Fin 3 → ℕ) a ≤ S3x1024x2048.size a}
    {hl : vM.view.LoadsAt (Rect.unit (s := S3x1024x2048) p ![1, 1024, 2048] inb).toLoadRect} (w : Vec F S1x1024x2048 .bf16)
    {hx : (vM.access (Rect.unit (s := S3x1024x2048) p ![1, 1024, 2048] inb')).Stores Finset.univ}
    {hm : Finset.univ = Finset.univ ∨ ∀ a, (Rect.unit (s := S3x1024x2048) p ![1, 1024, 2048] inb').stride a = 1}
    {α : Type} {Q : α → sProp 𝕄} {k : PUnit → Prog (TpuEff nD τ sig (Elt F) Λ₀ .tc) α} :
    iprop(∃ f : (cc0_scratch2 : Ref sig .tc).ty.Contents (Elt F), ((c : Thread nD τ).loc cc0_scratch2) ↦[vSlot s]{fullShare} f)
      ⊢ iprop((vPts (F := F) c s w -∗ Runs c (k ⟨⟩) Q)
      -∗ Runs c (.op (.load vM (Rect.unit (s := S3x1024x2048) p ![1, 1024, 2048] inb).toLoadRect hl) fun _ =>
          .op (.store vM (Rect.unit (s := S3x1024x2048) p ![1, 1024, 2048] inb') w Finset.univ hx hm) k) Q) := by
  have hset : (vM.access (Rect.unit (s := S3x1024x2048) p ![1, 1024, 2048] inb)).set = vSlot s := (View.set_slice_whole _ _).trans (vRect_set s hp inb)
  iintro ⟨%f, Ht⟩ Hk
  iapply (wp_load_rect 𝒱₀ (c : Thread nD τ) none Set.univ (m := vM) (r := Rect.unit (s := S3x1024x2048) p ![1, 1024, 2048] inb)
    (subset_of_eq hset)) $$ Ht
  iintro Ht
  iapply (wp_store 𝒱₀ (c : Thread nD τ) none Set.univ (m := vM) (r := Rect.unit (s := S3x1024x2048) p ![1, 1024, 2048] inb') (Mk := Finset.univ)
    (subset_of_eq hset)) $$ Ht
  iintro Ht
  iapply Hk
  have hc : ((((c : Thread nD τ).loc cc0_scratch2) ↦[vSlot s]{fullShare}
      ((vM.access (Rect.unit (s := S3x1024x2048) p ![1, 1024, 2048] inb)).write (Elt F) f w Finset.univ)) : sProp 𝕄) = vPts c s w :=
    pointsTo_congr fun i hi => by
      obtain ⟨y, -, hy⟩ := Finset.mem_map.mp (hset ▸ hi)
      rw [← hy]
      exact (View.write_emb_of_mem (v := vM.access (Rect.unit (s := S3x1024x2048) p ![1, 1024, 2048] inb)) f w (Finset.mem_univ y)).trans
        (v_idx hp inb y w _ rfl).symm
  iapply (Entails.of_eq hc)
  iexact Ht

/-- The result staging buffer's rows `a … a + n`. -/
abbrev oV (a n : ℕ) (inb : ∀ i, (![a, 0] : Fin 2 → ℕ) i + (![n, 2048] : Fin 2 → ℕ) i ≤ S1024x2048.size i) :
    View sig .tc .vmem (⟨2, ![n, 2048]⟩ : Shape) .f32 := oM.access (Rect.unit (s := S1024x2048) ![a, 0] ![n, 2048] inb)

/-- Those rows of a result, and a result with those rows replaced. -/
def oGet (a n : ℕ) (inb : ∀ i, (![a, 0] : Fin 2 → ℕ) i + (![n, 2048] : Fin 2 → ℕ) i ≤ S1024x2048.size i) (f : Vec F S1024x2048 .f32) :
    Vec F (⟨2, ![n, 2048]⟩ : Shape) .f32 := (oV a n inb).read (Elt F) f
def oSet (a n : ℕ) (inb : ∀ i, (![a, 0] : Fin 2 → ℕ) i + (![n, 2048] : Fin 2 → ℕ) i ≤ S1024x2048.size i) (f : Vec F S1024x2048 .f32)
    (w : Vec F (⟨2, ![n, 2048]⟩ : Shape) .f32) : Vec F S1024x2048 .f32 := (oV a n inb).write (Elt F) f w Finset.univ

theorem step_load_o (c : Dev nD) (a n : ℕ) (f : Vec F S1024x2048 .f32)
    {inb : ∀ i, (![a, 0] : Fin 2 → ℕ) i + (![n, 2048] : Fin 2 → ℕ) i ≤ S1024x2048.size i}
    {hl : oM.view.LoadsAt (Rect.unit (s := S1024x2048) ![a, 0] ![n, 2048] inb).toLoadRect}
    {α : Type} {Q : α → sProp 𝕄} {k : Vec F (⟨2, ![n, 2048]⟩ : Shape) .f32 → Prog (TpuEff nD τ sig (Elt F) Λ₀ .tc) α} :
    oPts (F := F) c f ⊢ iprop((oPts c f -∗ Runs c (k (oGet a n inb f)) Q)
      -∗ Runs c (.op (.load oM (Rect.unit (s := S1024x2048) ![a, 0] ![n, 2048] inb).toLoadRect hl) k) Q) := by
  iintro Ht Hk
  unfold oPts
  iapply (wp_load_rect 𝒱₀ (c : Thread nD τ) none Set.univ (m := oM) (r := Rect.unit (s := S1024x2048) ![a, 0] ![n, 2048] inb)
    (Finset.subset_univ _)) $$ Ht
  iintro Ht
  iapply Hk; iexact Ht

theorem step_store_o (c : Dev nD) (a n : ℕ) (f : Vec F S1024x2048 .f32) (w : Vec F (⟨2, ![n, 2048]⟩ : Shape) .f32)
    {inb : ∀ i, (![a, 0] : Fin 2 → ℕ) i + (![n, 2048] : Fin 2 → ℕ) i ≤ S1024x2048.size i}
    {hx : (oV a n inb).Stores Finset.univ}
    {hm : Finset.univ = Finset.univ ∨ ∀ i, (Rect.unit (s := S1024x2048) ![a, 0] ![n, 2048] inb).stride i = 1}
    {α : Type} {Q : α → sProp 𝕄} {k : PUnit → Prog (TpuEff nD τ sig (Elt F) Λ₀ .tc) α} :
    oPts (F := F) c f ⊢ iprop((oPts c (oSet a n inb f w) -∗ Runs c (k ⟨⟩) Q)
      -∗ Runs c (.op (.store oM (Rect.unit (s := S1024x2048) ![a, 0] ![n, 2048] inb) w Finset.univ hx hm) k) Q) := by
  iintro Ht Hk
  unfold oPts
  iapply (wp_store 𝒱₀ (c : Thread nD τ) none Set.univ (m := oM) (r := Rect.unit (s := S1024x2048) ![a, 0] ![n, 2048] inb) (Mk := Finset.univ)
    (Finset.subset_univ _)) $$ Ht
  iintro Ht
  iapply Hk; iexact Ht

/-- A result with those rows replaced by `g` of what they hold. -/
def oUpd (a n : ℕ) (inb : ∀ i, (![a, 0] : Fin 2 → ℕ) i + (![n, 2048] : Fin 2 → ℕ) i ≤ S1024x2048.size i)
    (g : Vec F (⟨2, ![n, 2048]⟩ : Shape) .f32 → Vec F (⟨2, ![n, 2048]⟩ : Shape) .f32) (f : Vec F S1024x2048 .f32) : Vec F S1024x2048 .f32 :=
  oSet a n inb f (g (oGet a n inb f))

/-- One accumulation: the rows that channel `j` brought, some rows of the result, and a converted block of `w` are read,
    and those rows of the result rewritten. -/
theorem step_acc (c d : Dev nD) (j : Ch) {n : ℕ} (hn : len j = n) (hd : d = srcOf c j) (a : ℕ) (ha : a = off j) (hb : a + n ≤ 1024)
    (s : Fin 3) (w : Vec F S1x1024x2048 .bf16) (f : Vec F S1024x2048 .f32)
    {p : Fin 3 → ℕ} (hp : p = ![d.val, a, 0]) {p' : Fin 3 → ℕ} (hp' : p' = ![s.val, 0, 0])
    {inb : ∀ a, p a + (![1, n, 1024] : Fin 3 → ℕ) a ≤ S4x1024x1024.size a}
    {hl : bM.view.LoadsAt (Rect.unit (s := S4x1024x1024) p ![1, n, 1024] inb).toLoadRect}
    {inbv : ∀ a, p' a + (![1, 1024, 2048] : Fin 3 → ℕ) a ≤ S3x1024x2048.size a}
    {hlv : vM.view.LoadsAt (Rect.unit (s := S3x1024x2048) p' ![1, 1024, 2048] inbv).toLoadRect}
    {inbo : ∀ i, (![a, 0] : Fin 2 → ℕ) i + (![n, 2048] : Fin 2 → ℕ) i ≤ S1024x2048.size i}
    {hlo hlo' : oM.view.LoadsAt (Rect.unit (s := S1024x2048) ![a, 0] ![n, 2048] inbo).toLoadRect}
    {hx : (oV a n inbo).Stores Finset.univ}
    {hm : Finset.univ = Finset.univ ∨ ∀ i, (Rect.unit (s := S1024x2048) ![a, 0] ![n, 2048] inbo).stride i = 1}
    {g : Vec F (⟨3, ![1, n, 1024]⟩ : Shape) .i8 → Vec F (⟨2, ![n, 2048]⟩ : Shape) .f32 → Vec F S1x1024x2048 .bf16 → Vec F (⟨2, ![n, 2048]⟩ : Shape) .f32}
    {α : Type} {Q : α → sProp 𝕄} {k : PUnit → Prog (TpuEff nD τ sig (Elt F) Λ₀ .tc) α} :
    got (F := F) m ρ c j ⊢ iprop(vPts c s w -∗ oPts c f
      -∗ ((got m ρ c j ∗ vPts c s w ∗ oPts c (oUpd a n inbo (fun u => g (rows m ρ d c a n hb) u w) f)) -∗ Runs c (k ⟨⟩) Q)
      -∗ Runs c (.op (.load bM (Rect.unit (s := S4x1024x1024) p ![1, n, 1024] inb).toLoadRect hl) fun x =>
          .op (.load oM (Rect.unit (s := S1024x2048) ![a, 0] ![n, 2048] inbo).toLoadRect hlo) fun u =>
          .op (.load vM (Rect.unit (s := S3x1024x2048) p' ![1, 1024, 2048] inbv).toLoadRect hlv) fun w =>
          .op (.load oM (Rect.unit (s := S1024x2048) ![a, 0] ![n, 2048] inbo).toLoadRect hlo') fun _ =>
          .op (.store oM (Rect.unit (s := S1024x2048) ![a, 0] ![n, 2048] inbo) (g x u w) Finset.univ hx hm) k) Q) := by
  iintro Hg Hv Ho Hk
  iapply (step_load_b m ρ c d j hn hd a ha hb hp) $$ Hg
  iintro Hg
  iapply (step_load_o c a n f) $$ Ho
  iintro Ho
  iapply (step_load_v c s w hp') $$ Hv
  iintro Hv
  iapply (step_load_o c a n f) $$ Ho
  iintro Ho
  iapply (step_store_o c a n f _) $$ Ho
  iintro Ho
  iapply Hk
  isplitl [Hg]; · iexact Hg
  isplitl [Hv]; · iexact Hv
  iexact Ho

/-- The same with the converted block of `w` read before the rows of the result. -/
theorem step_acc_last (c d : Dev nD) (j : Ch) {n : ℕ} (hn : len j = n) (hd : d = srcOf c j) (a : ℕ) (ha : a = off j) (hb : a + n ≤ 1024)
    (s : Fin 3) (w : Vec F S1x1024x2048 .bf16) (f : Vec F S1024x2048 .f32)
    {p : Fin 3 → ℕ} (hp : p = ![d.val, a, 0]) {p' : Fin 3 → ℕ} (hp' : p' = ![s.val, 0, 0])
    {inb : ∀ a, p a + (![1, n, 1024] : Fin 3 → ℕ) a ≤ S4x1024x1024.size a}
    {hl : bM.view.LoadsAt (Rect.unit (s := S4x1024x1024) p ![1, n, 1024] inb).toLoadRect}
    {inbv : ∀ a, p' a + (![1, 1024, 2048] : Fin 3 → ℕ) a ≤ S3x1024x2048.size a}
    {hlv : vM.view.LoadsAt (Rect.unit (s := S3x1024x2048) p' ![1, 1024, 2048] inbv).toLoadRect}
    {inbo : ∀ i, (![a, 0] : Fin 2 → ℕ) i + (![n, 2048] : Fin 2 → ℕ) i ≤ S1024x2048.size i}
    {hlo hlo' : oM.view.LoadsAt (Rect.unit (s := S1024x2048) ![a, 0] ![n, 2048] inbo).toLoadRect}
    {hx : (oV a n inbo).Stores Finset.univ}
    {hm : Finset.univ = Finset.univ ∨ ∀ i, (Rect.unit (s := S1024x2048) ![a, 0] ![n, 2048] inbo).stride i = 1}
    {g : Vec F (⟨3, ![1, n, 1024]⟩ : Shape) .i8 → Vec F S1x1024x2048 .bf16 → Vec F (⟨2, ![n, 2048]⟩ : Shape) .f32 → Vec F (⟨2, ![n, 2048]⟩ : Shape) .f32}
    {α : Type} {Q : α → sProp 𝕄} {k : PUnit → Prog (TpuEff nD τ sig (Elt F) Λ₀ .tc) α} :
    got (F := F) m ρ c j ⊢ iprop(vPts c s w -∗ oPts c f
      -∗ ((got m ρ c j ∗ vPts c s w ∗ oPts c (oUpd a n inbo (fun u => g (rows m ρ d c a n hb) w u) f)) -∗ Runs c (k ⟨⟩) Q)
      -∗ Runs c (.op (.load bM (Rect.unit (s := S4x1024x1024) p ![1, n, 1024] inb).toLoadRect hl) fun x =>
          .op (.load vM (Rect.unit (s := S3x1024x2048) p' ![1, 1024, 2048] inbv).toLoadRect hlv) fun w =>
          .op (.load oM (Rect.unit (s := S1024x2048) ![a, 0] ![n, 2048] inbo).toLoadRect hlo) fun u =>
          .op (.load oM (Rect.unit (s := S1024x2048) ![a, 0] ![n, 2048] inbo).toLoadRect hlo') fun _ =>
          .op (.store oM (Rect.unit (s := S1024x2048) ![a, 0] ![n, 2048] inbo) (g x w u) Finset.univ hx hm) k) Q) := by
  iintro Hg Hv Ho Hk
  iapply (step_load_b m ρ c d j hn hd a ha hb hp) $$ Hg
  iintro Hg
  iapply (step_load_v c s w hp') $$ Hv
  iintro Hv
  iapply (step_load_o c a n f) $$ Ho
  iintro Ho
  iapply (step_load_o c a n f) $$ Ho
  iintro Ho
  iapply (step_store_o c a n f _) $$ Ho
  iintro Ho
  iapply Hk
  isplitl [Hg]; · iexact Hg
  isplitl [Hv]; · iexact Hv
  iexact Ho

/-- A departure's return and an arrival, waited for one after the other. -/
theorem step_swap (c : Dev nD) (j : Ch) {sS rS : DmaSem sig} (hs : sS = sndS j) (hr : rS = rcvS j)
    {sp₁ sp₁' sp₂ sp₂' : Space} {s₁ s₁' s₂ s₂' : Shape} {e₁ e₁' e₂ e₂' : EltTy} {κ₁ κ₂ : Kind}
    {src₁ : Memref sig .tc sp₁' s₁' e₁'} {dst₁ : Memref sig κ₁ sp₁ s₁ e₁} {hsrc₁ : src₁.view.WordExact} {hdst₁ : dst₁.view.WordExact}
    {src₂ : Memref sig .tc sp₂' s₂' e₂'} {dst₂ : Memref sig κ₂ sp₂ s₂ e₂} {hsrc₂ : src₂.view.WordExact} {hdst₂ : dst₂.view.WordExact}
    (h₁ : dst₁.view.dmaCredit = credN (len j)) (h₂ : dst₂.view.dmaCredit = credN (len j))
    {α : Type} {Q : α → sProp 𝕄} {k : PUnit → Prog (TpuEff nD τ sig (Elt F) Λ₀ .tc) α} :
    recs m ρ K ⊢ iprop(fly c j -∗ due c j -∗ own c 0
      -∗ ((home m ρ c j ∗ got m ρ c j ∗ own c 0) -∗ Runs c (k ⟨⟩) Q)
      -∗ Runs c (.op (.waitDma2 sS src₁ dst₁ hsrc₁ hdst₁) fun _ => .op (.waitDma2 rS src₂ dst₂ hsrc₂ hdst₂) k) Q) := by
  iintro #HI Hf Hd HO Hk
  iapply (step_wait_snd m ρ K c j hs h₁) $$ HI Hf HO
  iintro ⟨Hh, HO⟩
  iapply (step_wait_rcv m ρ K c j hr h₂) $$ HI Hd HO
  iintro ⟨Hg, HO⟩
  iapply Hk
  isplitl [Hh]; · iexact Hh
  isplitl [Hg]; · iexact Hg
  iexact HO

end Cert.KernelIdealProof

end
-- ==== Proof.KernelIdealDepart.lean ====
/-
The first third of the kernel: the exchange of signals, the fourteen departures, and the first copy of `w`.
-/
module

public import proofs.«01_k».proof.Proof.KernelIdealSteps

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- What the exchange of signals takes: the tokens of the three signals, the room they hand over, and the position and
    credit of the wait. -/
def meet (c : Dev nD) : sProp 𝕄 :=
  iprop((dutyTok ER (barCell (sh 1 c)) 0 (0 : Du) ∗ dutyTok ER (barCell (sh 2 c)) 0 (1 : Du) ∗ dutyTok ER (barCell (sh 3 c)) 0 (2 : Du))
    ∗ (bigSep Finset.univ fun j : Ch => room (F := F) c j) ∗ atPos ER (barCell c) 0 ∅ 0 ∗ cred (tallyAt (barCell c) () 3) ∗ levAts L lv)

theorem part1 (c : Dev nD) (Q : (Σ' (d0 : Dev nD) (v2 : BitVec 32) (v4 : BitVec 32) (v6 : BitVec 32) (v8 : BitVec 32), BitVec 32) → sProp 𝕄) :
    recs m ρ K ⊢ iprop(meet (F := F) c -∗ own c (O₀ c)
      -∗ (∀ v2 v4 v6 v8 v23, ((bigSep Finset.univ fun j : Ch => room (F := F) (dstOf c j) j) ∗ atPos ER (barCell c) 1 ∅ 0 ∗ owing c 0) -∗ Q ⟨c, v2, v4, v6, v8, v23⟩)
      -∗ Runs c (k0_part1 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5) Q) := by
  simp only [k0_part1_eq_skeleton]; unfold k0_part1_skel
  simp only [semSignalWord, semWaitWord, Prog.lift, Prog.bind_op, Prog.bind_ret, Prog.pure_eq_ret, wp_deviceId]
  rw [show (⟨k0_dev1 c, k0_dev1_lt c⟩ : Dev nD) = sh 1 c from Fin.ext (k0_dev1_eq c),
    show (⟨k0_dev2 c, k0_dev2_lt c⟩ : Dev nD) = sh 2 c from Fin.ext (k0_dev2_eq c),
    show (⟨k0_dev3 c, k0_dev3_lt c⟩ : Dev nD) = sh 3 c from Fin.ext (k0_dev3_eq c)]
  unfold meet owing own
  iintro #HI ⟨⟨Ht1, Ht2, Ht3⟩, Hroom, Ha, Hc, #Hlev⟩ ⟨%W, HO⟩ Hk
  ihave Hroom := (room_split (F := F) c) $$ Hroom
  icases Hroom with ⟨Hp1, Hp2, Hp3⟩
  ihave #Hi1 := (recs_inv m ρ K (sh 1 c, none)) $$ HI
  ihave #Hi2 := (recs_inv m ρ K (sh 2 c, none)) $$ HI
  ihave #Hi3 := (recs_inv m ρ K (sh 3 c, none)) $$ HI
  ihave #Hi0 := (recs_inv m ρ K (c, none)) $$ HI
  ihave #Hr1 := (recs_reached m ρ K (sh 1 c, none)) $$ HI
  ihave #Hr2 := (recs_reached m ρ K (sh 2 c, none)) $$ HI
  ihave #Hr3 := (recs_reached m ρ K (sh 3 c, none)) $$ HI
  iapply (Rounds.wp_signal 𝒱₀ ER (Rd m ρ) (c : Thread nD τ) none (dst := (sh 1 c : Thread nD τ)) (κ := K (sh 1 c, none))
      (d := (0 : Du)) (by rw [duties_bar]; exact Finset.mem_univ _) ((amount_bar m ρ (sh 1 c) 0 0).trans (by decide)) ()
      (owedTo c ∅ + tallyAt (barCell (sh 3 c)) () 1 + tallyAt (barCell (sh 2 c)) () 1) rfl) $$ [HO Ht1 Hp1]
  · isplitr; · iexact Hi1
    isplitl [HO]; · iexact HO
    isplitl [Ht1]; · iexact Ht1
    isplitl [Hp1]; · rw [payload_bar]; iexact Hp1
    iexact Hr1
  iintro HO
  iapply (Rounds.wp_signal 𝒱₀ ER (Rd m ρ) (c : Thread nD τ) none (dst := (sh 2 c : Thread nD τ)) (κ := K (sh 2 c, none))
      (d := (1 : Du)) (by rw [duties_bar]; exact Finset.mem_univ _) ((amount_bar m ρ (sh 2 c) 0 1).trans (by decide)) ()
      (owedTo c ∅ + tallyAt (barCell (sh 3 c)) () 1) rfl) $$ [HO Ht2 Hp2]
  · isplitr; · iexact Hi2
    isplitl [HO]; · iexact HO
    isplitl [Ht2]; · iexact Ht2
    isplitl [Hp2]; · rw [payload_bar]; iexact Hp2
    iexact Hr2
  iintro HO
  iapply (Rounds.wp_signal 𝒱₀ ER (Rd m ρ) (c : Thread nD τ) none (dst := (sh 3 c : Thread nD τ)) (κ := K (sh 3 c, none))
      (d := (2 : Du)) (by rw [duties_bar]; exact Finset.mem_univ _) ((amount_bar m ρ (sh 3 c) 0 2).trans (by decide)) ()
      (owedTo c ∅) rfl) $$ [HO Ht3 Hp3]
  · isplitr; · iexact Hi3
    isplitl [HO]; · iexact HO
    isplitl [Ht3]; · iexact Ht3
    isplitl [Hp3]; · rw [payload_bar]; iexact Hp3
    iexact Hr3
  iintro HO
  iapply (Rounds.wp_wait_rest_token 𝒱₀ ER (Rd m ρ) (c : Thread nD τ) none (κ := K (c, none))
      (wpE_semWait_eq 𝒱₀ (c : Thread nD τ) none Set.univ) (Set.mem_univ _) () (O := owedTo c ∅) (W := W) (R := 0) (m := 0) (T := ∅)
      (by rw [expect_bar]; decide)) $$ [Hc HO Ha]
  · isplitr; · iexact Hi0
    isplitl [Hc]; · iexact Hc
    isplitl [HO]; · iexact HO
    isplitr; · iapply (mayWait_bar c); iexact Hlev
    iexact Ha
  iintro ⟨HO, Ha, -, Hp⟩
  ihave Hroom := (rest_bar m ρ c) $$ Hp
  iapply (step_done c)
  iapply Hk
  isplitl [Hroom]; · iexact Hroom
  isplitl [Ha]; · iexact Ha
  iexists (insert (SemLoc.reg barS, ()) W); iexact HO

/-- The departures of channels 0 and 4. -/
theorem part2 (c : Dev nD) (v2 v23 : BitVec 32) (Q : (Σ' (v36 : BitVec 32), BitVec 32) → sProp 𝕄) :
    recs m ρ K ⊢ iprop(ready m ρ c 0 -∗ ready m ρ c 4 -∗ owing c 0
      -∗ (∀ r, (fly c 0 ∗ fly c 4 ∗ owing c 2) -∗ Q r)
      -∗ Runs c (k0_part2 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v2 v23) Q) := by
  simp only [k0_part2_eq_skeleton]; unfold k0_part2_skel
  simp only [Prog.lift, Prog.bind_op, Prog.bind_ret, Prog.pure_eq_ret]
  iintro #HI Hx0 Hx4 HO Hk
  iapply (step_send m ρ K c 0 (n := 256) rfl (nd := ⟨k0_dev4 c, k0_dev4_lt c⟩) (Fin.ext (k0_dev4_eq c))
    (o := k0_off2 c 1#32 0#32) (by revert c; decide) (p := k0_off1 c) (k0_off1_eq c) (sS := sndS 0) (rS := rcvS 0) rfl rfl 0 rfl) $$ HI Hx0 HO
  iintro ⟨Hf0, HO⟩
  iapply (step_send m ρ K c 4 (n := 256) rfl (nd := ⟨k0_dev5 c, k0_dev5_lt c⟩) (Fin.ext (k0_dev5_eq c))
    (o := k0_off2 c 2#32 0#32) (by revert c; decide) (p := k0_off1 c) (k0_off1_eq c) (sS := sndS 4) (rS := rcvS 4) rfl rfl 1 rfl) $$ HI Hx4 HO
  iintro ⟨Hf4, HO⟩
  iapply (step_done c)
  iapply Hk
  isplitl [Hf0]; · iexact Hf0
  isplitl [Hf4]; · iexact Hf4
  iexact HO

/-- The departures of channels 10 and 1 and 5. -/
theorem part3 (c : Dev nD) (v2 : BitVec 32) (Q : (Σ' (v62 : BitVec 32) (v75 : BitVec 32) (v87 : BitVec 32), BitVec 32) → sProp 𝕄) :
    recs m ρ K ⊢ iprop(ready m ρ c 10 -∗ ready m ρ c 1 -∗ ready m ρ c 5 -∗ owing c 2
      -∗ (∀ r, (fly c 10 ∗ fly c 1 ∗ fly c 5 ∗ owing c 5) -∗ Q r)
      -∗ Runs c (k0_part3 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v2) Q) := by
  simp only [k0_part3_eq_skeleton]; unfold k0_part3_skel
  simp only [Prog.lift, Prog.bind_op, Prog.bind_ret, Prog.pure_eq_ret]
  iintro #HI Hx10 Hx1 Hx5 HO Hk
  iapply (step_send m ρ K c 10 (n := 256) rfl (nd := ⟨k0_dev6 c, k0_dev6_lt c⟩) (Fin.ext (k0_dev6_eq c))
    (o := k0_off2 c 3#32 0#32) (by revert c; decide) (p := k0_off1 c) (k0_off1_eq c) (sS := sndS 10) (rS := rcvS 10) rfl rfl 2 rfl) $$ HI Hx10 HO
  iintro ⟨Hf10, HO⟩
  iapply (step_send m ρ K c 1 (n := 256) rfl (nd := ⟨k0_dev7 c, k0_dev7_lt c⟩) (Fin.ext (k0_dev7_eq c))
    (o := k0_off2 c 1#32 256#32) (by revert c; decide) (p := k0_off3 c) (k0_off3_eq c) (sS := sndS 1) (rS := rcvS 1) rfl rfl 3 rfl) $$ HI Hx1 HO
  iintro ⟨Hf1, HO⟩
  iapply (step_send m ρ K c 5 (n := 256) rfl (nd := ⟨k0_dev8 c, k0_dev8_lt c⟩) (Fin.ext (k0_dev8_eq c))
    (o := k0_off2 c 2#32 256#32) (by revert c; decide) (p := k0_off3 c) (k0_off3_eq c) (sS := sndS 5) (rS := rcvS 5) rfl rfl 4 rfl) $$ HI Hx5 HO
  iintro ⟨Hf5, HO⟩
  iapply (step_done c)
  iapply Hk
  isplitl [Hf10]; · iexact Hf10
  isplitl [Hf1]; · iexact Hf1
  isplitl [Hf5]; · iexact Hf5
  iexact HO

/-- The departures of channels 11 and 2. -/
theorem part4 (c : Dev nD) (v2 v87 c4 : BitVec 32) (Q : (Σ' (v88 : BitVec 32) (v101 : BitVec 32) (v114 : BitVec 32) (v117 : BitVec 32), BitVec 32) → sProp 𝕄) :
    recs m ρ K ⊢ iprop(ready m ρ c 11 -∗ ready m ρ c 2 -∗ owing c 5
      -∗ (∀ r, (fly c 11 ∗ fly c 2 ∗ owing c 7) -∗ Q r)
      -∗ Runs c (k0_part4 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v2 v87 c4) Q) := by
  simp only [k0_part4_eq_skeleton]; unfold k0_part4_skel
  simp only [Prog.lift, Prog.bind_op, Prog.bind_ret, Prog.pure_eq_ret]
  iintro #HI Hx11 Hx2 HO Hk
  iapply (step_send m ρ K c 11 (n := 256) rfl (nd := ⟨k0_dev9 c, k0_dev9_lt c⟩) (Fin.ext (k0_dev9_eq c))
    (o := k0_off2 c 3#32 256#32) (by revert c; decide) (p := k0_off3 c) (k0_off3_eq c) (sS := sndS 11) (rS := rcvS 11) rfl rfl 5 rfl) $$ HI Hx11 HO
  iintro ⟨Hf11, HO⟩
  iapply (step_send m ρ K c 2 (n := 256) rfl (nd := ⟨k0_dev10 c, k0_dev10_lt c⟩) (Fin.ext (k0_dev10_eq c))
    (o := k0_off2 c 1#32 512#32) (by revert c; decide) (p := k0_off4 c) (k0_off4_eq c) (sS := sndS 2) (rS := rcvS 2) rfl rfl 6 rfl) $$ HI Hx2 HO
  iintro ⟨Hf2, HO⟩
  iapply (step_done c)
  iapply Hk
  isplitl [Hf11]; · iexact Hf11
  isplitl [Hf2]; · iexact Hf2
  iexact HO

/-- The departures of channels 6 and 12. -/
theorem part5 (c : Dev nD) (v2 v117 c0 : BitVec 32) (Q : (Σ' (v127 : BitVec 32), BitVec 32) → sProp 𝕄) :
    recs m ρ K ⊢ iprop(ready m ρ c 6 -∗ ready m ρ c 12 -∗ owing c 7
      -∗ (∀ r, (fly c 6 ∗ fly c 12 ∗ owing c 9) -∗ Q r)
      -∗ Runs c (k0_part5 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v2 v117 c0) Q) := by
  simp only [k0_part5_eq_skeleton]; unfold k0_part5_skel
  simp only [Prog.lift, Prog.bind_op, Prog.bind_ret, Prog.pure_eq_ret]
  iintro #HI Hx6 Hx12 HO Hk
  iapply (step_send m ρ K c 6 (n := 256) rfl (nd := ⟨k0_dev11 c, k0_dev11_lt c⟩) (Fin.ext (k0_dev11_eq c))
    (o := k0_off2 c 2#32 512#32) (by revert c; decide) (p := k0_off4 c) (k0_off4_eq c) (sS := sndS 6) (rS := rcvS 6) rfl rfl 7 rfl) $$ HI Hx6 HO
  iintro ⟨Hf6, HO⟩
  iapply (step_send m ρ K c 12 (n := 256) rfl (nd := ⟨k0_dev12 c, k0_dev12_lt c⟩) (Fin.ext (k0_dev12_eq c))
    (o := k0_off2 c 3#32 512#32) (by revert c; decide) (p := k0_off4 c) (k0_off4_eq c) (sS := sndS 12) (rS := rcvS 12) rfl rfl 8 rfl) $$ HI Hx12 HO
  iintro ⟨Hf12, HO⟩
  iapply (step_done c)
  iapply Hk
  isplitl [Hf6]; · iexact Hf6
  isplitl [Hf12]; · iexact Hf12
  iexact HO

/-- The departures of channels 3 and 7 and 13. -/
theorem part6 (c : Dev nD) (v2 : BitVec 32) (Q : (Σ' (v153 : BitVec 32) (v166 : BitVec 32), BitVec 32) → sProp 𝕄) :
    recs m ρ K ⊢ iprop(ready m ρ c 3 -∗ ready m ρ c 7 -∗ ready m ρ c 13 -∗ owing c 9
      -∗ (∀ r, (fly c 3 ∗ fly c 7 ∗ fly c 13 ∗ owing c 12) -∗ Q r)
      -∗ Runs c (k0_part6 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v2) Q) := by
  simp only [k0_part6_eq_skeleton]; unfold k0_part6_skel
  simp only [Prog.lift, Prog.bind_op, Prog.bind_ret, Prog.pure_eq_ret]
  iintro #HI Hx3 Hx7 Hx13 HO Hk
  iapply (step_send m ρ K c 3 (n := 256) rfl (nd := ⟨k0_dev13 c, k0_dev13_lt c⟩) (Fin.ext (k0_dev13_eq c))
    (o := k0_off2 c 1#32 768#32) (by revert c; decide) (p := k0_off5 c) (k0_off5_eq c) (sS := sndS 3) (rS := rcvS 3) rfl rfl 9 rfl) $$ HI Hx3 HO
  iintro ⟨Hf3, HO⟩
  iapply (step_send m ρ K c 7 (n := 128) rfl (nd := ⟨k0_dev14 c, k0_dev14_lt c⟩) (Fin.ext (k0_dev14_eq c))
    (o := k0_off7 c) (by revert c; decide) (p := k0_off6 c) (k0_off6_eq c) (sS := sndS 7) (rS := rcvS 7) rfl rfl 10 rfl) $$ HI Hx7 HO
  iintro ⟨Hf7, HO⟩
  iapply (step_send m ρ K c 13 (n := 256) rfl (nd := ⟨k0_dev15 c, k0_dev15_lt c⟩) (Fin.ext (k0_dev15_eq c))
    (o := k0_off2 c 3#32 768#32) (by revert c; decide) (p := k0_off5 c) (k0_off5_eq c) (sS := sndS 13) (rS := rcvS 13) rfl rfl 11 rfl) $$ HI Hx13 HO
  iintro ⟨Hf13, HO⟩
  iapply (step_done c)
  iapply Hk
  isplitl [Hf3]; · iexact Hf3
  isplitl [Hf7]; · iexact Hf7
  isplitl [Hf13]; · iexact Hf13
  iexact HO

/-- The departures of channels 8 and 9, and the first copy of `w`. -/
theorem part7 (c : Dev nD) (v2 v4 v179 : BitVec 32) (Q : BitVec 32 → sProp 𝕄) :
    recs m ρ K ⊢ iprop(ready m ρ c 8 -∗ ready m ρ c 9 -∗ owing c 12 -∗ idle c 0 0 -∗ need m c 0 0
      -∗ (∀ r, (fly c 8 ∗ fly c 9 ∗ owing c 14 ∗ wfly c 0 0) -∗ Q r)
      -∗ Runs c (k0_part7 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v2 v4 v179) Q) := by
  simp only [k0_part7_eq_skeleton]; unfold k0_part7_skel
  simp only [Prog.lift, Prog.bind_op, Prog.bind_ret, Prog.pure_eq_ret]
  iintro #HI Hx8 Hx9 HO Hi Hn Hk
  iapply (step_send m ρ K c 8 (n := 64) rfl (nd := ⟨k0_dev16 c, k0_dev16_lt c⟩) (Fin.ext (k0_dev16_eq c))
    (o := k0_off9 c 896#32) (by revert c; decide) (p := k0_off8 c) (k0_off8_eq c) (sS := sndS 8) (rS := rcvS 8) rfl rfl 12 rfl) $$ HI Hx8 HO
  iintro ⟨Hf8, HO⟩
  iapply (step_send m ρ K c 9 (n := 64) rfl (nd := ⟨k0_dev17 c, k0_dev17_lt c⟩) (Fin.ext (k0_dev17_eq c))
    (o := k0_off9 c 960#32) (by revert c; decide) (p := k0_off10 c) (k0_off10_eq c) (sS := sndS 9) (rS := rcvS 9) rfl rfl 13 rfl) $$ HI Hx9 HO
  iintro ⟨Hf9, HO⟩
  iapply (step_copy m ρ K c 0 0 (by decide) (o := k0_off11 c) (k0_off11_eq c) (p := ![0, 0, 0]) rfl (sS := wcpS 0) rfl) $$ HI Hi Hn
  iintro Hw
  iapply (step_done c)
  iapply Hk
  isplitl [Hf8]; · iexact Hf8
  isplitl [Hf9]; · iexact Hf9
  isplitl [HO]; · iexact HO
  iexact Hw

end Cert.KernelIdealProof

end
-- ==== Proof.KernelIdealArrive.lean ====
/-
The rest of the kernel: the blocks of `w` converted, and the arrivals added up. Each part is stated for whatever
the result staging buffer and the converted blocks hold, and says what it makes of them.
-/
module

public import proofs.«01_k».proof.Proof.KernelIdealDepart

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- Rows `a … a + n` lie in the result staging buffer. -/
theorem o_in {a n : ℕ} (h : a + n ≤ 1024) (i : Fin 2) : (![a, 0] : Fin 2 → ℕ) i + (![n, 2048] : Fin 2 → ℕ) i ≤ S1024x2048.size i := by
  revert i; refine Fin.forall_fin_two.mpr ⟨h, ?_⟩; exact le_of_eq (Nat.zero_add _)

/-- The two scales in the staging buffers. -/
def sPts (c : Dev nD) : sProp 𝕄 :=
  iprop((((c : Thread nD τ).loc cc0_stg1_0) ↦{fullShare} sxstg m ρ c) ∗ (((c : Thread nD τ).loc cc0_stg2_0) ↦{fullShare} swstg m ρ c))

/-- The product of the two scales. -/
def sc (c : Dev nD) : F .f32 := k0_pay6 (sxstg m ρ c (ix1 (0 : Fin 1))) (swstg m ρ c (ix1 (0 : Fin 1)))

omit [FloatOps F] in
/-- A buffer of one scale has one element. -/
theorem one_idx (x y : S1.Idx) : x = y := by
  funext a; apply Fin.ext
  have hx : (x a).val < S1.size a := (x a).isLt
  have hy : (y a).val < S1.size a := (y a).isLt
  have hs : S1.size a = 1 := (by decide : ∀ a, S1.size a = 1) a
  omega

theorem step_load_sx (c : Dev nD) {inb : ∀ i, (![0] : Fin 1 → ℕ) i + S1.size i ≤ S1.size i}
    {hl : sxM.view.LoadsAt (Rect.unit (s := S1) ![0] S1.size inb).toLoadRect}
    {α : Type} {Q : α → sProp 𝕄} {k : Vec F S1 .f32 → Prog (TpuEff nD τ sig (Elt F) Λ₀ .tc) α} :
    (((c : Thread nD τ).loc cc0_stg1_0) ↦{fullShare} sxstg m ρ c : sProp 𝕄)
      ⊢ iprop(((((c : Thread nD τ).loc cc0_stg1_0) ↦{fullShare} sxstg m ρ c) -∗ Runs c (k fun _ => sxstg m ρ c (ix1 (0 : Fin 1))) Q)
      -∗ Runs c (.op (.load sxM (Rect.unit (s := S1) ![0] S1.size inb).toLoadRect hl) k) Q) := by
  have hv : (sxM.access (Rect.unit (s := S1) ![0] S1.size inb)).read (Elt F) (sxstg m ρ c) = fun _ => sxstg m ρ c (ix1 (0 : Fin 1)) := by
    funext x; rw [View.read_apply]; exact congrArg (sxstg m ρ c) (one_idx _ _)
  iintro Ht Hk
  iapply (wp_load_rect 𝒱₀ (c : Thread nD τ) none Set.univ (m := sxM) (r := Rect.unit (s := S1) ![0] S1.size inb) (Finset.subset_univ _)) $$ Ht
  iintro Ht
  rw [hv]
  iapply Hk; iexact Ht

theorem step_load_sw (c : Dev nD) {inb : ∀ i, (![0] : Fin 1 → ℕ) i + S1.size i ≤ S1.size i}
    {hl : swM.view.LoadsAt (Rect.unit (s := S1) ![0] S1.size inb).toLoadRect}
    {α : Type} {Q : α → sProp 𝕄} {k : Vec F S1 .f32 → Prog (TpuEff nD τ sig (Elt F) Λ₀ .tc) α} :
    (((c : Thread nD τ).loc cc0_stg2_0) ↦{fullShare} swstg m ρ c : sProp 𝕄)
      ⊢ iprop(((((c : Thread nD τ).loc cc0_stg2_0) ↦{fullShare} swstg m ρ c) -∗ Runs c (k fun _ => swstg m ρ c (ix1 (0 : Fin 1))) Q)
      -∗ Runs c (.op (.load swM (Rect.unit (s := S1) ![0] S1.size inb).toLoadRect hl) k) Q) := by
  have hv : (swM.access (Rect.unit (s := S1) ![0] S1.size inb)).read (Elt F) (swstg m ρ c) = fun _ => swstg m ρ c (ix1 (0 : Fin 1)) := by
    funext x; rw [View.read_apply]; exact congrArg (swstg m ρ c) (one_idx _ _)
  iintro Ht Hk
  iapply (wp_load_rect 𝒱₀ (c : Thread nD τ) none Set.univ (m := swM) (r := Rect.unit (s := S1) ![0] S1.size inb) (Finset.subset_univ _)) $$ Ht
  iintro Ht
  rw [hv]
  iapply Hk; iexact Ht

/-- Slot `s` of the converted blocks, whatever it holds. -/
def vAny (c : Dev nD) (s : Fin 3) : sProp 𝕄 :=
  iprop(∃ f : (cc0_scratch2 : Ref sig .tc).ty.Contents (Elt F), ((c : Thread nD τ).loc cc0_scratch2) ↦[vSlot s]{fullShare} f)

omit [FloatOps F] in
theorem vAny_of (c : Dev nD) (s : Fin 3) (w : Vec F S1x1024x2048 .bf16) : vPts c s w ⊢ vAny c s := by
  unfold vPts vAny; iintro H; iexists _; iexact H

/-- The whole result rewritten. -/
theorem oSet_all (f w : Vec F S1024x2048 .f32) : oSet 0 1024 (o_in (by decide)) f w = w := by
  unfold oSet
  exact Memref.write_access_unit_zero_univ (Elt F) cc0_stg3_0 (by decide) _ f w

/-- Block `c` of `w` arrives and is converted; the next two copies start. -/
theorem part8 (c : Dev nD) (v2 v6 : BitVec 32) (Q : FVec F S1024x2048 .f32 → sProp 𝕄) :
    recs m ρ K ⊢ iprop(idle c 1 0 -∗ need m c 1 0 -∗ wfly c 0 0 -∗ vAny (F := F) c 0 -∗ need m c 0 1 -∗ xPts m ρ c (xOwn c) -∗ own c 0
      -∗ ((wfly c 1 0 ∗ wPts m c (wBlk c 0 0) ∗ wfly c 0 1 ∗ vPts c 0 (k0_pay2 (wVec m c (wBlk c 0 0))) ∗ xPts m ρ c (xOwn c) ∗ own c 0) -∗ Q (k0_pay3 (xVec m ρ c) (k0_pay2 (wVec m c (wBlk c 0 0)))))
      -∗ Runs c (k0_part8 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v2 v6) Q) := by
  simp only [k0_part8_eq_skeleton]; unfold k0_part8_skel
  simp only [Prog.lift, Prog.bind_op, Prog.bind_ret, Prog.pure_eq_ret]
  iintro #HI Hw1 Hn Hw0 Hv0 Hn2 Hx HO Hk
  unfold vAny
  iapply (step_copy m ρ K c 1 0 (by decide) (o := k0_off12 c 3#32) (by revert c; decide) (p := ![1, 0, 0]) rfl (sS := wcpS 1) rfl) $$ HI Hw1 Hn
  iintro Hw1
  iapply (step_wait_w m ρ K c 0 0 (by decide) (sS := wcpS 0) rfl rfl) $$ HI Hw0 HO
  iintro ⟨Hw0, Hb00, HO⟩
  iapply (step_load_t m c 0 0 (p := ![0, 0, 0]) rfl) $$ Hw0
  iintro Hw0
  iapply (step_skip_v c 0 (p := ![0, 0, 0]) rfl (k0_pay2 (wVec m c (wBlk c 0 0)))) $$ Hv0
  iintro Hv0
  iapply (step_copy m ρ K c 0 1 (by decide) (o := k0_off12 c 1#32) (by revert c; decide) (p := ![0, 0, 0]) rfl (sS := wcpS 0) rfl) $$ HI Hw0 Hn2
  iintro Hw0
  iapply (step_load_x m ρ c (o := k0_off13 c) (k0_off13_eq c)) $$ Hx
  iintro Hx
  iapply (step_load_v c 0 (k0_pay2 (wVec m c (wBlk c 0 0))) (p := ![0, 0, 0]) rfl) $$ Hv0
  iintro Hv0
  iapply (step_done c)
  iapply Hk
  isplitl [Hw1]; · iexact Hw1
  isplitl [Hb00]; · iexact Hb00
  isplitl [Hw0]; · iexact Hw0
  isplitl [Hv0]; · iexact Hv0
  isplitl [Hx]; · iexact Hx
  iexact HO

/-- The product of the device's own rows is stored, and the two neighbours' blocks of `w` are converted. -/
theorem part9 (c : Dev nD) (v8 : BitVec 32) (v240 : FVec F S1024x2048 .f32) (f : Vec F S1024x2048 .f32) (Q : PUnit → sProp 𝕄) :
    recs m ρ K ⊢ iprop(oPts c f -∗ wfly c 1 0 -∗ vAny (F := F) c 1 -∗ wfly c 0 1 -∗ vAny (F := F) c 2 -∗ own c 0
      -∗ ((oPts c v240 ∗ idle c 1 1 ∗ wPts m c (wBlk c 1 0) ∗ vPts c 1 (k0_pay4 (wVec m c (wBlk c 1 0))) ∗ idle c 0 2 ∗ wPts m c (wBlk c 0 1) ∗ vPts c 2 (k0_pay5 (wVec m c (wBlk c 0 1))) ∗ own c 0) -∗ Q ⟨⟩)
      -∗ Runs c (k0_part9 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v8 v240) Q) := by
  simp only [k0_part9_eq_skeleton]; unfold k0_part9_skel
  simp only [Prog.lift, Prog.bind_op, Prog.bind_ret, Prog.pure_eq_ret]
  iintro #HI Ho Hw1 Hv1 Hw0 Hv2 HO Hk
  unfold vAny
  iapply (step_load_o c 0 1024 f) $$ Ho
  iintro Ho
  iapply (step_store_o c 0 1024 f _) $$ Ho
  iintro Ho
  rw [oSet_all]
  iapply (step_wait_w m ρ K c 1 0 (by decide) (sS := wcpS 1) rfl rfl) $$ HI Hw1 HO
  iintro ⟨Hw1, Hb10, HO⟩
  iapply (step_load_t m c 1 0 (p := ![1, 0, 0]) rfl) $$ Hw1
  iintro Hw1
  iapply (step_skip_v c 1 (p := ![1, 0, 0]) rfl (k0_pay4 (wVec m c (wBlk c 1 0)))) $$ Hv1
  iintro Hv1
  iapply (step_wait_w m ρ K c 0 1 (by decide) (sS := wcpS 0) rfl rfl) $$ HI Hw0 HO
  iintro ⟨Hw0, Hb01, HO⟩
  iapply (step_load_t m c 0 1 (p := ![0, 0, 0]) rfl) $$ Hw0
  iintro Hw0
  iapply (step_skip_v c 2 (p := ![2, 0, 0]) rfl (k0_pay5 (wVec m c (wBlk c 0 1)))) $$ Hv2
  iintro Hv2
  iapply (step_done c)
  iapply Hk
  isplitl [Ho]; · iexact Ho
  isplitl [Hw1]; · iexact Hw1
  isplitl [Hb10]; · iexact Hb10
  isplitl [Hv1]; · iexact Hv1
  isplitl [Hw0]; · iexact Hw0
  isplitl [Hb01]; · iexact Hb01
  isplitl [Hv2]; · iexact Hv2
  iexact HO

/-- The last copy of `w` starts, the scales are read, and channel 0 is added. -/
theorem part10 (c : Dev nD) (v4 v23 : BitVec 32) (w : Vec F S1x1024x2048 .bf16) (f : Vec F S1024x2048 .f32) (Q : F .f32 → sProp 𝕄) :
    recs m ρ K ⊢ iprop(idle c 1 1 -∗ need m c 1 1 -∗ sPts m ρ c -∗ fly c 0 -∗ due c 0 -∗ vPts c 1 w -∗ oPts c f -∗ own c 0
      -∗ ((wfly c 1 1 ∗ sPts m ρ c ∗ home m ρ c 0 ∗ got m ρ c 0 ∗ vPts c 1 w ∗ oPts c (oUpd 0 256 (o_in (by decide)) (fun u => k0_pay7 (rows m ρ (srcOf c 0) c 0 256 (by decide)) u w) f) ∗ own c 0) -∗ Q (sc m ρ c))
      -∗ Runs c (k0_part10 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v4 v23) Q) := by
  simp only [k0_part10_eq_skeleton]; unfold k0_part10_skel sc
  simp only [smemLoad, smemLoadElt, Prog.lift, Prog.bind_op, Prog.bind_ret, Prog.pure_eq_ret]
  iintro #HI Hw1 Hn Hs Hf0 Hd0 Hv1 Ho HO Hk
  unfold sPts
  icases Hs with ⟨Hs1, Hs2⟩
  iapply (step_copy m ρ K c 1 1 (by decide) (o := k0_off12 c 2#32) (by revert c; decide) (p := ![1, 0, 0]) rfl (sS := wcpS 1) rfl) $$ HI Hw1 Hn
  iintro Hw1
  iapply (step_load_sx m ρ c) $$ Hs1
  iintro Hs1
  iapply (step_load_sw m ρ c) $$ Hs2
  iintro Hs2
  beta_reduce
  iapply (step_swap m ρ K c 0 (sS := sndS 0) (rS := rcvS 0) rfl rfl rfl rfl) $$ HI Hf0 Hd0 HO
  iintro ⟨Hh0, Hg0, HO⟩
  iapply (step_acc m ρ c (srcOf c 0) 0 (n := 256) rfl rfl 0 rfl (by decide) 1 w f (p := k0_off14 c 3#32) (by revert c; decide) (p' := ![1, 0, 0]) rfl) $$ Hg0 Hv1 Ho
  iintro ⟨Hg0, Hv1, Ho⟩
  iapply (step_done c)
  iapply Hk
  isplitl [Hw1]; · iexact Hw1
  isplitl [Hs1 Hs2]
  · isplitl [Hs1]; · iexact Hs1
    iexact Hs2
  isplitl [Hh0]; · iexact Hh0
  isplitl [Hg0]; · iexact Hg0
  isplitl [Hv1]; · iexact Hv1
  isplitl [Ho]; · iexact Ho
  iexact HO

/-- Channel 10 is added, and the last copy of `w` is waited for. -/
theorem part11 (c : Dev nD) (v6 v49 : BitVec 32) (w : Vec F S1x1024x2048 .bf16) (f : Vec F S1024x2048 .f32) (Q : PUnit → sProp 𝕄) :
    recs m ρ K ⊢ iprop(fly c 10 -∗ due c 10 -∗ vPts c 2 w -∗ oPts c f -∗ wfly c 1 1 -∗ own c 0
      -∗ ((home m ρ c 10 ∗ got m ρ c 10 ∗ vPts c 2 w ∗ oPts c (oUpd 0 256 (o_in (by decide)) (fun u => k0_pay8 (rows m ρ (srcOf c 10) c 0 256 (by decide)) u w) f) ∗ here m c 1 1 ∗ wPts m c (wBlk c 1 1) ∗ own c 0) -∗ Q ⟨⟩)
      -∗ Runs c (k0_part11 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v6 v49) Q) := by
  simp only [k0_part11_eq_skeleton]; unfold k0_part11_skel
  simp only [Prog.lift, Prog.bind_op, Prog.bind_ret, Prog.pure_eq_ret]
  iintro #HI Hf10 Hd10 Hv2 Ho Hw1 HO Hk
  iapply (step_swap m ρ K c 10 (sS := sndS 10) (rS := rcvS 10) rfl rfl rfl rfl) $$ HI Hf10 Hd10 HO
  iintro ⟨Hh10, Hg10, HO⟩
  iapply (step_acc m ρ c (srcOf c 10) 10 (n := 256) rfl rfl 0 rfl (by decide) 2 w f (p := k0_off14 c 1#32) (by revert c; decide) (p' := ![2, 0, 0]) rfl) $$ Hg10 Hv2 Ho
  iintro ⟨Hg10, Hv2, Ho⟩
  iapply (step_wait_w m ρ K c 1 1 (by decide) (sS := wcpS 1) rfl rfl) $$ HI Hw1 HO
  iintro ⟨Hw1, Hb11, HO⟩
  iapply (step_done c)
  iapply Hk
  isplitl [Hh10]; · iexact Hh10
  isplitl [Hg10]; · iexact Hg10
  isplitl [Hv2]; · iexact Hv2
  isplitl [Ho]; · iexact Ho
  isplitl [Hw1]; · iexact Hw1
  isplitl [Hb11]; · iexact Hb11
  iexact HO

/-- The block of `w` of the device opposite is converted, and channel 1 is added. -/
theorem part12 (c : Dev nD) (v4 v62 : BitVec 32) (w : Vec F S1x1024x2048 .bf16) (f : Vec F S1024x2048 .f32) (Q : PUnit → sProp 𝕄) :
    recs m ρ K ⊢ iprop(here m c 1 1 -∗ vAny (F := F) c 0 -∗ fly c 1 -∗ due c 1 -∗ vPts c 1 w -∗ oPts c f -∗ own c 0
      -∗ ((idle c 1 2 ∗ vPts c 0 (k0_pay9 (wVec m c (wBlk c 1 1))) ∗ home m ρ c 1 ∗ got m ρ c 1 ∗ vPts c 1 w ∗ oPts c (oUpd 256 256 (o_in (by decide)) (fun u => k0_pay10 (rows m ρ (srcOf c 1) c 256 256 (by decide)) u w) f) ∗ own c 0) -∗ Q ⟨⟩)
      -∗ Runs c (k0_part12 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v4 v62) Q) := by
  simp only [k0_part12_eq_skeleton]; unfold k0_part12_skel
  simp only [Prog.lift, Prog.bind_op, Prog.bind_ret, Prog.pure_eq_ret]
  iintro #HI Hw1 Hv0 Hf1 Hd1 Hv1 Ho HO Hk
  unfold vAny
  iapply (step_load_t m c 1 1 (p := ![1, 0, 0]) rfl) $$ Hw1
  iintro Hw1
  iapply (step_skip_v c 0 (p := ![0, 0, 0]) rfl (k0_pay9 (wVec m c (wBlk c 1 1)))) $$ Hv0
  iintro Hv0
  iapply (step_swap m ρ K c 1 (sS := sndS 1) (rS := rcvS 1) rfl rfl rfl rfl) $$ HI Hf1 Hd1 HO
  iintro ⟨Hh1, Hg1, HO⟩
  iapply (step_acc m ρ c (srcOf c 1) 1 (n := 256) rfl rfl 256 rfl (by decide) 1 w f (p := k0_off15 c 3#32) (by revert c; decide) (p' := ![1, 0, 0]) rfl) $$ Hg1 Hv1 Ho
  iintro ⟨Hg1, Hv1, Ho⟩
  iapply (step_done c)
  iapply Hk
  isplitl [Hw1]; · iexact Hw1
  isplitl [Hv0]; · iexact Hv0
  isplitl [Hh1]; · iexact Hh1
  isplitl [Hg1]; · iexact Hg1
  isplitl [Hv1]; · iexact Hv1
  isplitl [Ho]; · iexact Ho
  iexact HO

/-- Channel 11 is added. -/
theorem part13 (c : Dev nD) (v6 v88 : BitVec 32) (w : Vec F S1x1024x2048 .bf16) (f : Vec F S1024x2048 .f32) (Q : PUnit → sProp 𝕄) :
    recs m ρ K ⊢ iprop(fly c 11 -∗ due c 11 -∗ vPts c 2 w -∗ oPts c f -∗ own c 0
      -∗ ((home m ρ c 11 ∗ got m ρ c 11 ∗ vPts c 2 w ∗ oPts c (oUpd 256 256 (o_in (by decide)) (fun u => k0_pay11 (rows m ρ (srcOf c 11) c 256 256 (by decide)) u w) f) ∗ own c 0) -∗ Q ⟨⟩)
      -∗ Runs c (k0_part13 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v6 v88) Q) := by
  simp only [k0_part13_eq_skeleton]; unfold k0_part13_skel
  simp only [Prog.lift, Prog.bind_op, Prog.bind_ret, Prog.pure_eq_ret]
  iintro #HI Hf11 Hd11 Hv2 Ho HO Hk
  iapply (step_swap m ρ K c 11 (sS := sndS 11) (rS := rcvS 11) rfl rfl rfl rfl) $$ HI Hf11 Hd11 HO
  iintro ⟨Hh11, Hg11, HO⟩
  iapply (step_acc m ρ c (srcOf c 11) 11 (n := 256) rfl rfl 256 rfl (by decide) 2 w f (p := k0_off15 c 1#32) (by revert c; decide) (p' := ![2, 0, 0]) rfl) $$ Hg11 Hv2 Ho
  iintro ⟨Hg11, Hv2, Ho⟩
  iapply (step_done c)
  iapply Hk
  isplitl [Hh11]; · iexact Hh11
  isplitl [Hg11]; · iexact Hg11
  isplitl [Hv2]; · iexact Hv2
  isplitl [Ho]; · iexact Ho
  iexact HO

/-- Channel 4 finishes the first quarter, and the departure of channel 2 returns. -/
theorem part14 (c : Dev nD) (v8 v36 v101 : BitVec 32) (v272 : F .f32) (w : Vec F S1x1024x2048 .bf16) (f : Vec F S1024x2048 .f32) (Q : (Σ' (v408 : BitVec 32), BitVec 32) → sProp 𝕄) :
    recs m ρ K ⊢ iprop(fly c 4 -∗ due c 4 -∗ vPts c 0 w -∗ oPts c f -∗ fly c 2 -∗ own c 0
      -∗ (∀ r, (home m ρ c 4 ∗ got m ρ c 4 ∗ vPts c 0 w ∗ oPts c (oUpd 0 256 (o_in (by decide)) (fun u => k0_pay12 v272 (rows m ρ (srcOf c 4) c 0 256 (by decide)) w u) f) ∗ home m ρ c 2 ∗ own c 0) -∗ Q r)
      -∗ Runs c (k0_part14 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v8 v36 v101 v272) Q) := by
  simp only [k0_part14_eq_skeleton]; unfold k0_part14_skel
  simp only [Prog.lift, Prog.bind_op, Prog.bind_ret, Prog.pure_eq_ret]
  iintro #HI Hf4 Hd4 Hv0 Ho Hf2 HO Hk
  iapply (step_swap m ρ K c 4 (sS := sndS 4) (rS := rcvS 4) rfl rfl rfl rfl) $$ HI Hf4 Hd4 HO
  iintro ⟨Hh4, Hg4, HO⟩
  iapply (step_acc_last m ρ c (srcOf c 4) 4 (n := 256) rfl rfl 0 rfl (by decide) 0 w f (g := k0_pay12 v272) (p := k0_off14 c 2#32) (by revert c; decide) (p' := ![0, 0, 0]) rfl) $$ Hg4 Hv0 Ho
  iintro ⟨Hg4, Hv0, Ho⟩
  iapply (step_wait_snd m ρ K c 2 (sS := sndS 2) rfl rfl) $$ HI Hf2 HO
  iintro ⟨Hh2, HO⟩
  iapply (step_done c)
  iapply Hk
  isplitl [Hh4]; · iexact Hh4
  isplitl [Hg4]; · iexact Hg4
  isplitl [Hv0]; · iexact Hv0
  isplitl [Ho]; · iexact Ho
  isplitl [Hh2]; · iexact Hh2
  iexact HO

/-- Channel 2 is added, and channel 12 arrives. -/
theorem part15 (c : Dev nD) (v4 v6 v127 v408 c0 : BitVec 32) (w : Vec F S1x1024x2048 .bf16) (f : Vec F S1024x2048 .f32) (Q : PUnit → sProp 𝕄) :
    recs m ρ K ⊢ iprop(due c 2 -∗ vPts c 1 w -∗ oPts c f -∗ fly c 12 -∗ due c 12 -∗ own c 0
      -∗ ((got m ρ c 2 ∗ vPts c 1 w ∗ oPts c (oUpd 512 256 (o_in (by decide)) (fun u => k0_pay13 (rows m ρ (srcOf c 2) c 512 256 (by decide)) u w) f) ∗ home m ρ c 12 ∗ got m ρ c 12 ∗ own c 0) -∗ Q ⟨⟩)
      -∗ Runs c (k0_part15 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v4 v6 v127 v408 c0) Q) := by
  simp only [k0_part15_eq_skeleton]; unfold k0_part15_skel
  simp only [Prog.lift, Prog.bind_op, Prog.bind_ret, Prog.pure_eq_ret]
  iintro #HI Hd2 Hv1 Ho Hf12 Hd12 HO Hk
  iapply (step_wait_rcv m ρ K c 2 (sS := rcvS 2) rfl rfl) $$ HI Hd2 HO
  iintro ⟨Hg2, HO⟩
  iapply (step_acc m ρ c (srcOf c 2) 2 (n := 256) rfl rfl 512 rfl (by decide) 1 w f (p := k0_off16 c 3#32) (by revert c; decide) (p' := ![1, 0, 0]) rfl) $$ Hg2 Hv1 Ho
  iintro ⟨Hg2, Hv1, Ho⟩
  iapply (step_swap m ρ K c 12 (sS := sndS 12) (rS := rcvS 12) rfl rfl rfl rfl) $$ HI Hf12 Hd12 HO
  iintro ⟨Hh12, Hg12, HO⟩
  iapply (step_done c)
  iapply Hk
  isplitl [Hg2]; · iexact Hg2
  isplitl [Hv1]; · iexact Hv1
  isplitl [Ho]; · iexact Ho
  isplitl [Hh12]; · iexact Hh12
  isplitl [Hg12]; · iexact Hg12
  iexact HO

/-- Channel 12 is added; channel 5 arrives and is read. -/
theorem part16 (c : Dev nD) (v8 v75 : BitVec 32) (w : Vec F S1x1024x2048 .bf16) (w' : Vec F S1x1024x2048 .bf16) (f : Vec F S1024x2048 .f32) (Q : (Σ' (v464 : FVec F S256x1024 .bf16) (v466 : FVec F S1024x2048 .bf16), FVec F S256x2048 .f32) → sProp 𝕄) :
    recs m ρ K ⊢ iprop(got m ρ c 12 -∗ vPts c 2 w -∗ oPts c f -∗ fly c 5 -∗ due c 5 -∗ vPts c 0 w' -∗ own c 0
      -∗ ((got m ρ c 12 ∗ vPts c 2 w ∗ oPts c (oUpd 512 256 (o_in (by decide)) (fun u => k0_pay14 (rows m ρ (srcOf c 12) c 512 256 (by decide)) u w) f) ∗ home m ρ c 5 ∗ got m ρ c 5 ∗ vPts c 0 w' ∗ own c 0) -∗ Q ⟨k0_pay15 (rows m ρ (srcOf c 5) c 256 256 (by decide)), k0_pay16 w', constant S256x2048 .f32 0x00000000#32⟩)
      -∗ Runs c (k0_part16 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v8 v75) Q) := by
  simp only [k0_part16_eq_skeleton]; unfold k0_part16_skel
  simp only [Prog.lift, Prog.bind_op, Prog.bind_ret, Prog.pure_eq_ret]
  iintro #HI Hg12 Hv2 Ho Hf5 Hd5 Hv0 HO Hk
  iapply (step_acc m ρ c (srcOf c 12) 12 (n := 256) rfl rfl 512 rfl (by decide) 2 w f (p := k0_off16 c 1#32) (by revert c; decide) (p' := ![2, 0, 0]) rfl) $$ Hg12 Hv2 Ho
  iintro ⟨Hg12, Hv2, Ho⟩
  iapply (step_swap m ρ K c 5 (sS := sndS 5) (rS := rcvS 5) rfl rfl rfl rfl) $$ HI Hf5 Hd5 HO
  iintro ⟨Hh5, Hg5, HO⟩
  iapply (step_load_b m ρ c (srcOf c 5) 5 (n := 256) rfl rfl 256 rfl (by decide) (p := k0_off15 c 2#32) (by revert c; decide)) $$ Hg5
  iintro Hg5
  iapply (step_load_v c 0 w' (p := ![0, 0, 0]) rfl) $$ Hv0
  iintro Hv0
  iapply (step_done c)
  iapply Hk
  isplitl [Hg12]; · iexact Hg12
  isplitl [Hv2]; · iexact Hv2
  isplitl [Ho]; · iexact Ho
  isplitl [Hh5]; · iexact Hh5
  isplitl [Hg5]; · iexact Hg5
  isplitl [Hv0]; · iexact Hv0
  iexact HO

/-- Channel 5 finishes the second quarter; channel 3 arrives and its sum is formed. -/
theorem part17 (c : Dev nD) (v4 v140 : BitVec 32) (v272 : F .f32) (v464 : FVec F S256x1024 .bf16) (v466 : FVec F S1024x2048 .bf16) (cst : FVec F S256x2048 .f32) (w : Vec F S1x1024x2048 .bf16) (f : Vec F S1024x2048 .f32) (Q : FVec F S256x2048 .f32 → sProp 𝕄) :
    recs m ρ K ⊢ iprop(oPts c f -∗ fly c 3 -∗ due c 3 -∗ vPts c 1 w -∗ own c 0
      -∗ ((oPts c (oUpd 256 256 (o_in (by decide)) (fun u => k0_pay17 v272 v464 v466 cst u) f) ∗ home m ρ c 3 ∗ got m ρ c 3 ∗ vPts c 1 w ∗ own c 0) -∗ Q (k0_pay18 (rows m ρ (srcOf c 3) c 768 256 (by decide)) (oGet 768 256 (o_in (by decide)) (oUpd 256 256 (o_in (by decide)) (fun u => k0_pay17 v272 v464 v466 cst u) f)) w))
      -∗ Runs c (k0_part17 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v4 v140 v272 v464 v466 cst) Q) := by
  simp only [k0_part17_eq_skeleton]; unfold k0_part17_skel oUpd
  simp only [Prog.lift, Prog.bind_op, Prog.bind_ret, Prog.pure_eq_ret]
  iintro #HI Ho Hf3 Hd3 Hv1 HO Hk
  iapply (step_load_o c 256 256 f) $$ Ho
  iintro Ho
  iapply (step_load_o c 256 256 f) $$ Ho
  iintro Ho
  iapply (step_store_o c 256 256 f _) $$ Ho
  iintro Ho
  iapply (step_swap m ρ K c 3 (sS := sndS 3) (rS := rcvS 3) rfl rfl rfl rfl) $$ HI Hf3 Hd3 HO
  iintro ⟨Hh3, Hg3, HO⟩
  iapply (step_load_b m ρ c (srcOf c 3) 3 (n := 256) rfl rfl 768 rfl (by decide) (p := k0_off17 c 3#32) (by revert c; decide)) $$ Hg3
  iintro Hg3
  iapply (step_load_o c 768 256 _) $$ Ho
  iintro Ho
  iapply (step_load_v c 1 w (p := ![1, 0, 0]) rfl) $$ Hv1
  iintro Hv1
  iapply (step_done c)
  iapply Hk
  isplitl [Ho]; · iexact Ho
  isplitl [Hh3]; · iexact Hh3
  isplitl [Hg3]; · iexact Hg3
  isplitl [Hv1]; · iexact Hv1
  iexact HO

/-- The sum with channel 3 is stored, and channel 13 is added. -/
theorem part18 (c : Dev nD) (v6 v166 : BitVec 32) (v497 : FVec F S256x2048 .f32) (w : Vec F S1x1024x2048 .bf16) (f : Vec F S1024x2048 .f32) (Q : PUnit → sProp 𝕄) :
    recs m ρ K ⊢ iprop(oPts c f -∗ fly c 13 -∗ due c 13 -∗ vPts c 2 w -∗ own c 0
      -∗ ((oPts c (oUpd 768 256 (o_in (by decide)) (fun u => k0_pay19 (rows m ρ (srcOf c 13) c 768 256 (by decide)) u w) (oSet 768 256 (o_in (by decide)) f v497)) ∗ home m ρ c 13 ∗ got m ρ c 13 ∗ vPts c 2 w ∗ own c 0) -∗ Q ⟨⟩)
      -∗ Runs c (k0_part18 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v6 v166 v497) Q) := by
  simp only [k0_part18_eq_skeleton]; unfold k0_part18_skel
  simp only [Prog.lift, Prog.bind_op, Prog.bind_ret, Prog.pure_eq_ret]
  iintro #HI Ho Hf13 Hd13 Hv2 HO Hk
  iapply (step_load_o c 768 256 f) $$ Ho
  iintro Ho
  iapply (step_store_o c 768 256 f _) $$ Ho
  iintro Ho
  iapply (step_swap m ρ K c 13 (sS := sndS 13) (rS := rcvS 13) rfl rfl rfl rfl) $$ HI Hf13 Hd13 HO
  iintro ⟨Hh13, Hg13, HO⟩
  iapply (step_acc m ρ c (srcOf c 13) 13 (n := 256) rfl rfl 768 rfl (by decide) 2 w _ (p := k0_off17 c 1#32) (by revert c; decide) (p' := ![2, 0, 0]) rfl) $$ Hg13 Hv2 Ho
  iintro ⟨Hg13, Hv2, Ho⟩
  iapply (step_done c)
  iapply Hk
  isplitl [Ho]; · iexact Ho
  isplitl [Hh13]; · iexact Hh13
  isplitl [Hg13]; · iexact Hg13
  isplitl [Hv2]; · iexact Hv2
  iexact HO

/-- Channel 6 finishes the third quarter, and the departure of channel 7 returns. -/
theorem part19 (c : Dev nD) (v8 v114 : BitVec 32) (v272 : F .f32) (w : Vec F S1x1024x2048 .bf16) (f : Vec F S1024x2048 .f32) (Q : PUnit → sProp 𝕄) :
    recs m ρ K ⊢ iprop(fly c 6 -∗ due c 6 -∗ vPts c 0 w -∗ oPts c f -∗ fly c 7 -∗ own c 0
      -∗ ((home m ρ c 6 ∗ got m ρ c 6 ∗ vPts c 0 w ∗ oPts c (oUpd 512 256 (o_in (by decide)) (fun u => k0_pay20 v272 (rows m ρ (srcOf c 6) c 512 256 (by decide)) w u) f) ∗ home m ρ c 7 ∗ own c 0) -∗ Q ⟨⟩)
      -∗ Runs c (k0_part19 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v8 v114 v272) Q) := by
  simp only [k0_part19_eq_skeleton]; unfold k0_part19_skel
  simp only [Prog.lift, Prog.bind_op, Prog.bind_ret, Prog.pure_eq_ret]
  iintro #HI Hf6 Hd6 Hv0 Ho Hf7 HO Hk
  iapply (step_swap m ρ K c 6 (sS := sndS 6) (rS := rcvS 6) rfl rfl rfl rfl) $$ HI Hf6 Hd6 HO
  iintro ⟨Hh6, Hg6, HO⟩
  iapply (step_acc_last m ρ c (srcOf c 6) 6 (n := 256) rfl rfl 512 rfl (by decide) 0 w f (g := k0_pay20 v272) (p := k0_off16 c 2#32) (by revert c; decide) (p' := ![0, 0, 0]) rfl) $$ Hg6 Hv0 Ho
  iintro ⟨Hg6, Hv0, Ho⟩
  iapply (step_wait_snd m ρ K c 7 (sS := sndS 7) rfl rfl) $$ HI Hf7 HO
  iintro ⟨Hh7, HO⟩
  iapply (step_done c)
  iapply Hk
  isplitl [Hh6]; · iexact Hh6
  isplitl [Hg6]; · iexact Hg6
  isplitl [Hv0]; · iexact Hv0
  isplitl [Ho]; · iexact Ho
  isplitl [Hh7]; · iexact Hh7
  iexact HO

/-- Channel 7 finishes rows 768 to 896, and the departure of channel 8 returns. -/
theorem part20 (c : Dev nD) (v8 v153 v179 : BitVec 32) (v272 : F .f32) (w : Vec F S1x1024x2048 .bf16) (f : Vec F S1024x2048 .f32) (Q : PUnit → sProp 𝕄) :
    recs m ρ K ⊢ iprop(due c 7 -∗ vPts c 0 w -∗ oPts c f -∗ fly c 8 -∗ own c 0
      -∗ ((got m ρ c 7 ∗ vPts c 0 w ∗ oPts c (oUpd 768 128 (o_in (by decide)) (fun u => k0_pay21 v272 (rows m ρ (srcOf c 7) c 768 128 (by decide)) w u) f) ∗ home m ρ c 8 ∗ own c 0) -∗ Q ⟨⟩)
      -∗ Runs c (k0_part20 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v8 v153 v179 v272) Q) := by
  simp only [k0_part20_eq_skeleton]; unfold k0_part20_skel
  simp only [Prog.lift, Prog.bind_op, Prog.bind_ret, Prog.pure_eq_ret]
  iintro #HI Hd7 Hv0 Ho Hf8 HO Hk
  iapply (step_wait_rcv m ρ K c 7 (sS := rcvS 7) rfl rfl) $$ HI Hd7 HO
  iintro ⟨Hg7, HO⟩
  iapply (step_acc_last m ρ c (srcOf c 7) 7 (n := 128) rfl rfl 768 rfl (by decide) 0 w f (g := k0_pay21 v272) (p := k0_off18 c) (by revert c; decide) (p' := ![0, 0, 0]) rfl) $$ Hg7 Hv0 Ho
  iintro ⟨Hg7, Hv0, Ho⟩
  iapply (step_wait_snd m ρ K c 8 (sS := sndS 8) rfl rfl) $$ HI Hf8 HO
  iintro ⟨Hh8, HO⟩
  iapply (step_done c)
  iapply Hk
  isplitl [Hg7]; · iexact Hg7
  isplitl [Hv0]; · iexact Hv0
  isplitl [Ho]; · iexact Ho
  isplitl [Hh8]; · iexact Hh8
  iexact HO

/-- Channel 8 finishes rows 896 to 960, and the departure of channel 9 returns. -/
theorem part21 (c : Dev nD) (v8 v192 : BitVec 32) (v272 : F .f32) (w : Vec F S1x1024x2048 .bf16) (f : Vec F S1024x2048 .f32) (Q : PUnit → sProp 𝕄) :
    recs m ρ K ⊢ iprop(due c 8 -∗ vPts c 0 w -∗ oPts c f -∗ fly c 9 -∗ own c 0
      -∗ ((got m ρ c 8 ∗ vPts c 0 w ∗ oPts c (oUpd 896 64 (o_in (by decide)) (fun u => k0_pay22 v272 (rows m ρ (srcOf c 8) c 896 64 (by decide)) w u) f) ∗ home m ρ c 9 ∗ own c 0) -∗ Q ⟨⟩)
      -∗ Runs c (k0_part21 xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5 c v8 v192 v272) Q) := by
  simp only [k0_part21_eq_skeleton]; unfold k0_part21_skel
  simp only [Prog.lift, Prog.bind_op, Prog.bind_ret, Prog.pure_eq_ret]
  iintro #HI Hd8 Hv0 Ho Hf9 HO Hk
  iapply (step_wait_rcv m ρ K c 8 (sS := rcvS 8) rfl rfl) $$ HI Hd8 HO
  iintro ⟨Hg8, HO⟩
  iapply (step_acc_last m ρ c (srcOf c 8) 8 (n := 64) rfl rfl 896 rfl (by decide) 0 w f (g := k0_pay22 v272) (p := k0_off19 c) (by revert c; decide) (p' := ![0, 0, 0]) rfl) $$ Hg8 Hv0 Ho
  iintro ⟨Hg8, Hv0, Ho⟩
  iapply (step_wait_snd m ρ K c 9 (sS := sndS 9) rfl rfl) $$ HI Hf9 HO
  iintro ⟨Hh9, HO⟩
  iapply (step_done c)
  iapply Hk
  isplitl [Hg8]; · iexact Hg8
  isplitl [Hv0]; · iexact Hv0
  isplitl [Ho]; · iexact Ho
  isplitl [Hh9]; · iexact Hh9
  iexact HO

end Cert.KernelIdealProof

end
-- ==== Proof.KernelIdealShares.lean ====
/-
How the buffers are shared out among the parts of the kernel: each is the disjoint union of the pieces its
transfers and loads use, and is put together again at the end.
-/
module

public import proofs.«01_k».proof.Proof.KernelIdealArrive

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families -/

omit [FloatOps F] in
/-- A family over the options of a type: its member at `none` and the rest. -/
theorem bigSep_opt {I : Type} [Fintype I] [DecidableEq I] (Φ : Option I → sProp 𝕄) :
    bigSep Finset.univ Φ = iprop(Φ none ∗ bigSep Finset.univ fun i => Φ (some i)) := by
  rw [bigSep_univ_at Φ none]
  rw [show (Finset.univ.erase (none : Option I)) = Finset.univ.map Function.Embedding.some from by
    ext x; cases x <;> simp, BI.bigSep_map]
  rfl

omit [FloatOps F] in
theorem bigSep_two (Φ : Fin 2 → sProp 𝕄) : bigSep Finset.univ Φ = iprop(Φ 0 ∗ Φ 1) :=
  bigSep_univ_eq_bigSepL [0, 1] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- A family over the channels, one by one. -/
theorem bigSep_ch (Φ : Ch → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- The thirty transfer semaphores are the departures', the arrivals' and the two of `w`. -/
def kinds : (Ch ⊕ Ch) ⊕ Fin 2 → Fin 30
  | .inl (.inl j) => sndI j
  | .inl (.inr j) => rcvI j
  | .inr s => wcpI s

theorem kinds_bijective : Function.Bijective kinds := by
  constructor
  · rintro ((j | j) | s) ((j' | j') | s') h <;> have h := congrArg Fin.val h <;>
      simp only [kinds, sndI, rcvI, wcpI] at h <;>
      first
        | omega
        | (have : j = j' := Fin.ext (by omega); subst this; rfl)
        | (have : s = s' := Fin.ext (by omega); subst this; rfl)
  · intro i
    by_cases h1 : i.val < 14
    · exact ⟨.inl (.inl ⟨i.val, h1⟩), Fin.ext rfl⟩
    by_cases h2 : i.val < 28
    · exact ⟨.inl (.inr ⟨i.val - 14, by omega⟩), Fin.ext (by show 14 + (i.val - 14) = i.val; omega)⟩
    · exact ⟨.inr ⟨i.val - 28, by have := i.isLt; omega⟩, Fin.ext (by show 28 + (i.val - 28) = i.val; omega)⟩

omit [FloatOps F] in
theorem bigSep_own (Φ : Fin 30 → sProp 𝕄) : bigSep Finset.univ Φ
    = iprop(((bigSep Finset.univ fun j : Ch => Φ (sndI j)) ∗ bigSep Finset.univ fun j : Ch => Φ (rcvI j)) ∗ bigSep Finset.univ fun s : Fin 2 => Φ (wcpI s)) := by
  rw [BI.bigSep_univ_equiv (Equiv.ofBijective kinds kinds_bijective) Φ, BI.bigSep_univ_sum, BI.bigSep_univ_sum]
  rfl

/-! ## A buffer in pieces -/

section Pieces
variable {ℓ : Loc nD τ sig} {T : Type} [Fintype T] [DecidableEq T] (S : T → Finset (Idx ℓ))
    (hc : ∀ i, ∃ t, i ∈ S t) (hd : ∀ t t' i, i ∈ S t → i ∈ S t' → t = t')

include hc hd

omit [FloatOps F] in
theorem pieces (f : Buf (Elt F) ℓ) : (ℓ ↦{fullShare} f : sProp 𝕄) = bigSep Finset.univ fun t => ℓ ↦[S t]{fullShare} f := by
  rw [← pointsTo_biUnion Finset.univ S fun t _ t' _ ht => Finset.disjoint_left.mpr fun i h h' => ht (hd t t' i h h')]
  rw [show Finset.univ.biUnion S = Finset.univ from by
    ext i; simp only [Finset.mem_biUnion, Finset.mem_univ, true_and, iff_true]; exact hc i]

omit [FloatOps F] in
theorem pieces_join [Nonempty T] : (bigSep Finset.univ fun t => iprop(∃ f : Buf (Elt F) ℓ, ℓ ↦[S t]{fullShare} f)) ⊢ (iprop(∃ f : Buf (Elt F) ℓ, ℓ ↦{fullShare} f) : sProp 𝕄) := by
  have first : (bigSep Finset.univ fun t => iprop(∃ f : Buf (Elt F) ℓ, ℓ ↦[S t]{fullShare} f))
      ⊢ (iprop(∃ f : Buf (Elt F) ℓ, ℓ ↦[S (Classical.arbitrary T)]{fullShare} f) : sProp 𝕄) :=
    BI.bigSep_elim (Finset.mem_univ (Classical.arbitrary T))
  by_cases hn : Nonempty (Buf (Elt F) ℓ)
  case neg =>
    iintro H
    ihave H := first $$ H
    icases H with ⟨%f, -⟩
    exact absurd ⟨f⟩ hn
  have hn' : T → Nonempty (Buf (Elt F) ℓ) := fun _ => hn
  iintro H
  ihave H := (BI.bigSep_exists_pi Finset.univ (fun t (f : Buf (Elt F) ℓ) => (ℓ ↦[S t]{fullShare} f : sProp 𝕄))) $$ H
  icases H with ⟨%fs, H⟩
  ihave H := (pointsTo_biUnion_join Finset.univ S fs (fs (Classical.arbitrary T))
    fun t _ t' _ ht => Finset.disjoint_left.mpr fun i h h' => ht (hd t t' i h h')) $$ H
  icases H with ⟨%g, -, H⟩
  rw [show Finset.univ.biUnion S = Finset.univ from by
    ext i; simp only [Finset.mem_biUnion, Finset.mem_univ, true_and, iff_true]; exact hc i]
  iexists g; iexact H

end Pieces

/-! ## The pieces of `x` and of the landing buffer -/

/-- Some channel of each distance carries each row. -/
theorem exists_channel (k : ℕ) (h1 : 1 ≤ k) (h3 : k ≤ 3) (r : ℕ) (hr : r < 1024) :
    ∃ j : Ch, dist j = k ∧ off j ≤ r ∧ r < off j + len j := by
  have hk : k = 1 ∨ k = 2 ∨ k = 3 := by omega
  have hq : (r < 256) ∨ (256 ≤ r ∧ r < 512) ∨ (512 ≤ r ∧ r < 768) ∨ (768 ≤ r ∧ r < 896) ∨ (896 ≤ r ∧ r < 960) ∨ 960 ≤ r := by omega
  have pick (j : Ch) (hj : dist j = k) (ho : off j ≤ r) (hl : r < off j + len j) : ∃ j : Ch, dist j = k ∧ off j ≤ r ∧ r < off j + len j := ⟨j, hj, ho, hl⟩
  rcases hk with rfl | rfl | rfl <;> rcases hq with h | h | h | h | h | h
  · exact pick 0 rfl (Nat.zero_le _) h
  · exact pick 1 rfl h.1 h.2
  · exact pick 2 rfl h.1 h.2
  · exact pick 3 rfl h.1 (show r < 1024 by omega)
  · exact pick 3 rfl (show 768 ≤ r by omega) (show r < 1024 by omega)
  · exact pick 3 rfl (show 768 ≤ r by omega) hr
  · exact pick 4 rfl (Nat.zero_le _) h
  · exact pick 5 rfl h.1 h.2
  · exact pick 6 rfl h.1 h.2
  · exact pick 7 rfl h.1 h.2
  · exact pick 8 rfl h.1 h.2
  · exact pick 9 rfl h hr
  · exact pick 10 rfl (Nat.zero_le _) h
  · exact pick 11 rfl h.1 h.2
  · exact pick 12 rfl h.1 h.2
  · exact pick 13 rfl h.1 (show r < 1024 by omega)
  · exact pick 13 rfl (show 768 ≤ r by omega) (show r < 1024 by omega)
  · exact pick 13 rfl (show 768 ≤ r by omega) hr

/-- Channels of one distance carry different rows. -/
theorem channels_apart (j j' : Ch) (hd : dist j = dist j') (r : ℕ) (h : off j ≤ r ∧ r < off j + len j) (h' : off j' ≤ r ∧ r < off j' + len j') : j = j' := by
  have key : ∀ j j' : Ch, dist j = dist j' → j = j' ∨ off j + len j ≤ off j' ∨ off j' + len j' ≤ off j := by decide
  rcases key j j' hd with rfl | h1 | h1
  · rfl
  · omega
  · omega

theorem channel_fits (j : Ch) : off j + len j ≤ 1024 := by revert j; decide

theorem dstOf_ne (c : Dev nD) (j : Ch) : (dstOf c j).val ≠ c.val := by
  have := dist_le j; have hc : c.val < 4 := c.isLt
  show (c.val + dist j) % 4 ≠ c.val; omega
theorem srcOf_ne (c : Dev nD) (j : Ch) : (srcOf c j).val ≠ c.val := by
  have := dist_le j; have hc : c.val < 4 := c.isLt
  show (c.val + (4 - dist j)) % 4 ≠ c.val; omega
theorem dstOf_dist (c : Dev nD) (j j' : Ch) (h : (dstOf c j).val = (dstOf c j').val) : dist j = dist j' := by
  have := dist_le j; have := dist_le j'; have hc : c.val < 4 := c.isLt
  have h : (c.val + dist j) % 4 = (c.val + dist j') % 4 := h
  omega
theorem srcOf_dist (c : Dev nD) (j j' : Ch) (h : (srcOf c j).val = (srcOf c j').val) : dist j = dist j' := by
  have := dist_le j; have := dist_le j'; have hc : c.val < 4 := c.isLt
  have h : (c.val + (4 - dist j)) % 4 = (c.val + (4 - dist j')) % 4 := h
  omega

/-- The pieces of `x`: what stays, and what each channel carries. -/
def xPiece (c : Dev nD) : Option Ch → Finset S4096x1024.Idx | none => xOwn c | some j => xChunk c j
/-- The pieces of the landing buffer. -/
def bPiece (c : Dev nD) : Option Ch → Finset S4x1024x1024.Idx | none => bOwn c | some j => bChunk c j

theorem xPiece_cover (c : Dev nD) (i : S4096x1024.Idx) : ∃ t, i ∈ xPiece c t := by
  have hi : (i 0).val < 4096 := (i 0).isLt
  have hc : c.val < 4 := c.isLt
  by_cases h : (i 0).val / 1024 = c.val
  · refine ⟨none, ?_⟩
    simp only [xPiece, xOwn, Finset.mem_filter, Finset.mem_univ, true_and]
    omega
  · obtain ⟨j, hj, ho, hl⟩ := exists_channel (((i 0).val / 1024 + 4 - c.val) % 4) (by omega) (by omega) ((i 0).val % 1024) (by omega)
    refine ⟨some j, ?_⟩
    have hd : (dstOf c j).val = (i 0).val / 1024 := by show (c.val + dist j) % 4 = _; omega
    simp only [xPiece, xChunk, Finset.mem_filter, Finset.mem_univ, true_and]
    rw [hd]; omega

theorem xPiece_apart (c : Dev nD) (t t' : Option Ch) (i : S4096x1024.Idx) (h : i ∈ xPiece c t) (h' : i ∈ xPiece c t') : t = t' := by
  cases t with
  | none => cases t' with
    | none => rfl
    | some j =>
      simp only [xPiece, xOwn, xChunk, Finset.mem_filter, Finset.mem_univ, true_and] at h h'
      have := dstOf_ne c j; have := channel_fits j; omega
  | some j => cases t' with
    | none =>
      simp only [xPiece, xOwn, xChunk, Finset.mem_filter, Finset.mem_univ, true_and] at h h'
      have := dstOf_ne c j; have := channel_fits j; omega
    | some j' =>
      simp only [xPiece, xChunk, Finset.mem_filter, Finset.mem_univ, true_and] at h h'
      have f := channel_fits j; have f' := channel_fits j'
      have hd : (dstOf c j).val = (dstOf c j').val := by omega
      rw [channels_apart j j' (dstOf_dist c j j' hd) ((i 0).val - 1024 * (dstOf c j).val) (by omega) (by omega)]

theorem bPiece_cover (c : Dev nD) (i : S4x1024x1024.Idx) : ∃ t, i ∈ bPiece c t := by
  have hi : (i 0).val < 4 := (i 0).isLt
  have hr : (i 1).val < 1024 := (i 1).isLt
  have hc : c.val < 4 := c.isLt
  by_cases h : (i 0).val = c.val
  · refine ⟨none, ?_⟩
    simp only [bPiece, bOwn, Finset.mem_filter, Finset.mem_univ, true_and]
    exact h
  · obtain ⟨j, hj, ho, hl⟩ := exists_channel ((c.val + 4 - (i 0).val) % 4) (by omega) (by omega) (i 1).val hr
    refine ⟨some j, ?_⟩
    have hd : (srcOf c j).val = (i 0).val := by show (c.val + (4 - dist j)) % 4 = _; omega
    simp only [bPiece, bChunk, Finset.mem_filter, Finset.mem_univ, true_and]
    exact ⟨hd.symm, ho, hl⟩

theorem bPiece_apart (c : Dev nD) (t t' : Option Ch) (i : S4x1024x1024.Idx) (h : i ∈ bPiece c t) (h' : i ∈ bPiece c t') : t = t' := by
  cases t with
  | none => cases t' with
    | none => rfl
    | some j =>
      simp only [bPiece, bOwn, bChunk, Finset.mem_filter, Finset.mem_univ, true_and] at h h'
      exact absurd (h'.1.symm.trans h) (srcOf_ne c j)
  | some j => cases t' with
    | none =>
      simp only [bPiece, bOwn, bChunk, Finset.mem_filter, Finset.mem_univ, true_and] at h h'
      exact absurd (h.1.symm.trans h') (srcOf_ne c j)
    | some j' =>
      simp only [bPiece, bChunk, Finset.mem_filter, Finset.mem_univ, true_and] at h h'
      rw [channels_apart j j' (srcOf_dist c j j' (h.1.symm.trans h'.1)) (i 1).val h.2 h'.2]

/-- The four blocks of `w`, from the device's own on. -/
def wPiece (c : Dev nD) (k : Fin 4) : Finset S4096x2048.Idx := wBlock (sh k.val c)

theorem wPiece_cover (c : Dev nD) (i : S4096x2048.Idx) : ∃ k, i ∈ wPiece c k := by
  have hi : (i 0).val < 4096 := (i 0).isLt
  have hc : c.val < 4 := c.isLt
  refine ⟨⟨((i 0).val / 1024 + 4 - c.val) % 4, by omega⟩, ?_⟩
  have hd : (sh (((i 0).val / 1024 + 4 - c.val) % 4) c).val = (i 0).val / 1024 := by show (c.val + _) % 4 = _; omega
  simp only [wPiece, wBlock, Finset.mem_filter, Finset.mem_univ, true_and]
  rw [hd]; omega

theorem wPiece_apart (c : Dev nD) (k k' : Fin 4) (i : S4096x2048.Idx) (h : i ∈ wPiece c k) (h' : i ∈ wPiece c k') : k = k' := by
  have hc : c.val < 4 := c.isLt
  simp only [wPiece, wBlock, Finset.mem_filter, Finset.mem_univ, true_and] at h h'
  have hs : (sh k.val c).val = (sh k'.val c).val := by omega
  have hs : (c.val + k.val) % 4 = (c.val + k'.val) % 4 := hs
  exact Fin.ext (by omega)

theorem tSlot_cover (i : S2x1024x2048.Idx) : ∃ s, i ∈ tSlot s :=
  ⟨⟨(i 0).val, (i 0).isLt⟩, Finset.mem_filter.mpr ⟨Finset.mem_univ _, rfl⟩⟩
theorem tSlot_apart (s s' : Fin 2) (i : S2x1024x2048.Idx) (h : i ∈ tSlot s) (h' : i ∈ tSlot s') : s = s' :=
  Fin.ext ((Finset.mem_filter.mp h).2.symm.trans (Finset.mem_filter.mp h').2)
theorem vSlot_cover (i : S3x1024x2048.Idx) : ∃ s, i ∈ vSlot s :=
  ⟨⟨(i 0).val, (i 0).isLt⟩, Finset.mem_filter.mpr ⟨Finset.mem_univ _, rfl⟩⟩
theorem vSlot_apart (s s' : Fin 3) (i : S3x1024x2048.Idx) (h : i ∈ vSlot s) (h' : i ∈ vSlot s') : s = s' :=
  Fin.ext ((Finset.mem_filter.mp h).2.symm.trans (Finset.mem_filter.mp h').2)

/-! ## Sharing out, and putting together -/

omit [FloatOps F] in
/-- The staged `x`: what stays, and each channel's rows. -/
theorem x_share (c : Dev nD) : ((((c : Thread nD τ).loc cc0_stg0_0) ↦{fullShare} xstg m ρ c) : sProp 𝕄)
    = iprop(xPts m ρ c (xOwn c) ∗ bigSep Finset.univ fun j : Ch => xPts m ρ c (xChunk c j)) := by
  rw [pieces (ℓ := (c : Thread nD τ).loc cc0_stg0_0) (xPiece c) (xPiece_cover c) (xPiece_apart c), bigSep_opt]
  rfl

omit [FloatOps F] in
/-- The landing buffer: what nothing lands in, and each channel's room. -/
theorem b_share (c : Dev nD) (f : (cc0_scratch0 : Ref sig .tc).ty.Contents (Elt F)) :
    ((((c : Thread nD τ).loc cc0_scratch0) ↦{fullShare} f) : sProp 𝕄)
      ⊢ iprop((∃ f, bPts c (bOwn c) f) ∗ bigSep Finset.univ fun j : Ch => room (F := F) c j) := by
  rw [pieces (ℓ := (c : Thread nD τ).loc cc0_scratch0) (bPiece c) (bPiece_cover c) (bPiece_apart c), bigSep_opt]
  iintro ⟨H, Hj⟩
  isplitl [H]
  · iexists f; unfold bPts; iexact H
  have h : (bigSep Finset.univ fun j : Ch => (((c : Thread nD τ).loc cc0_scratch0) ↦[bPiece c (some j)]{fullShare} f : sProp 𝕄))
      ⊢ bigSep Finset.univ fun j : Ch => room (F := F) c j := bigSep_each fun j => by
    unfold room bPts; iintro H; iexists f; iexact H
  iapply h; iexact Hj

omit [FloatOps F] in
theorem b_join (c : Dev nD) : iprop((∃ f, bPts c (bOwn c) f) ∗ bigSep Finset.univ fun j : Ch => room (F := F) c j)
    ⊢ (iprop(∃ f : Buf (Elt F) ((c : Thread nD τ).loc cc0_scratch0), ((c : Thread nD τ).loc cc0_scratch0) ↦{fullShare} f) : sProp 𝕄) := by
  have h := pieces_join (F := F) (ℓ := (c : Thread nD τ).loc cc0_scratch0) (bPiece c) (bPiece_cover c) (bPiece_apart c)
  rw [bigSep_opt] at h
  exact h

omit [FloatOps F] in
/-- The whole of `w`: its four blocks, from the device's own on. -/
theorem w_share (c : Dev nD) : ((((c : Thread nD τ).loc main_arg1) ↦{fullShare} wArr m c) : sProp 𝕄)
    = iprop(wPts m c (wBlk c 0 0) ∗ wPts m c (wBlk c 0 1) ∗ wPts m c (wBlk c 1 1) ∗ wPts m c (wBlk c 1 0)) := by
  rw [pieces (ℓ := (c : Thread nD τ).loc main_arg1) (wPiece c) (wPiece_cover c) (wPiece_apart c), bigSep_four]
  have h0 : wPiece c 0 = wBlock (wBlk c 0 0) := by
    have : sh 0 c = c := Fin.ext (Nat.mod_eq_of_lt c.isLt)
    show wBlock (sh 0 c) = wBlock c; rw [this]
  rw [h0]; rfl

omit [FloatOps F] in
theorem t_share (c : Dev nD) (f : (cc0_scratch1 : Ref sig .tc).ty.Contents (Elt F)) :
    ((((c : Thread nD τ).loc cc0_scratch1) ↦{fullShare} f) : sProp 𝕄) ⊢ iprop((∃ f, tPts c 0 f) ∗ (∃ f, tPts c 1 f)) := by
  rw [pieces (ℓ := (c : Thread nD τ).loc cc0_scratch1) tSlot tSlot_cover tSlot_apart, bigSep_two]
  unfold tPts
  iintro ⟨H0, H1⟩
  isplitl [H0]
  · iexists f; iexact H0
  · iexists f; iexact H1

omit [FloatOps F] in
theorem t_join (c : Dev nD) : iprop((∃ f, tPts c 0 f) ∗ (∃ f, tPts c 1 f))
    ⊢ (iprop(∃ f : Buf (Elt F) ((c : Thread nD τ).loc cc0_scratch1), ((c : Thread nD τ).loc cc0_scratch1) ↦{fullShare} f) : sProp 𝕄) := by
  have h := pieces_join (F := F) (ℓ := (c : Thread nD τ).loc cc0_scratch1) tSlot tSlot_cover tSlot_apart
  rw [bigSep_two] at h
  exact h

omit [FloatOps F] in
theorem v_share (c : Dev nD) (f : (cc0_scratch2 : Ref sig .tc).ty.Contents (Elt F)) :
    ((((c : Thread nD τ).loc cc0_scratch2) ↦{fullShare} f) : sProp 𝕄) ⊢ iprop(vAny c 0 ∗ vAny c 1 ∗ vAny c 2) := by
  rw [pieces (ℓ := (c : Thread nD τ).loc cc0_scratch2) vSlot vSlot_cover vSlot_apart, bigSep_du]
  unfold vAny
  iintro ⟨H0, H1, H2⟩
  isplitl [H0]
  · iexists f; iexact H0
  isplitl [H1]
  · iexists f; iexact H1
  · iexists f; iexact H2

omit [FloatOps F] in
theorem v_join (c : Dev nD) : iprop(vAny c 0 ∗ vAny c 1 ∗ vAny c 2)
    ⊢ (iprop(∃ f : Buf (Elt F) ((c : Thread nD τ).loc cc0_scratch2), ((c : Thread nD τ).loc cc0_scratch2) ↦{fullShare} f) : sProp 𝕄) := by
  have h := pieces_join (F := F) (ℓ := (c : Thread nD τ).loc cc0_scratch2) vSlot vSlot_cover vSlot_apart
  rw [bigSep_du] at h
  exact h

end Cert.KernelIdealProof

end
-- ==== Proof.KernelIdealRun.lean ====
/-
The whole run of the kernel on one device: its parts, one after the other.
-/
module

public import proofs.«01_k».proof.Proof.KernelIdealShares

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The result -/

/-- The converted blocks of `w` a device multiplies by: its own, its two neighbours', and the one two away. -/
def wOwn (c : Dev nD) : Vec F S1x1024x2048 .bf16 := k0_pay2 (wVec m c (wBlk c 0 0))
def wPrev (c : Dev nD) : Vec F S1x1024x2048 .bf16 := k0_pay4 (wVec m c (wBlk c 1 0))
def wNext (c : Dev nD) : Vec F S1x1024x2048 .bf16 := k0_pay5 (wVec m c (wBlk c 0 1))
def wFar (c : Dev nD) : Vec F S1x1024x2048 .bf16 := k0_pay9 (wVec m c (wBlk c 1 1))

/-- The result after the first half of the run: rows below 512 hold the neighbours' terms, the first 256 also the far
    device's. -/
def outHalf (c : Dev nD) : Vec F S1024x2048 .f32 :=
  oUpd 0 256 (o_in (by decide)) (fun u => k0_pay12 (sc m ρ c) (rows m ρ (srcOf c 4) c 0 256 (by decide)) (wFar m c) u)
    (oUpd 256 256 (o_in (by decide)) (fun u => k0_pay11 (rows m ρ (srcOf c 11) c 256 256 (by decide)) u (wNext m c))
      (oUpd 256 256 (o_in (by decide)) (fun u => k0_pay10 (rows m ρ (srcOf c 1) c 256 256 (by decide)) u (wPrev m c))
        (oUpd 0 256 (o_in (by decide)) (fun u => k0_pay8 (rows m ρ (srcOf c 10) c 0 256 (by decide)) u (wNext m c))
          (oUpd 0 256 (o_in (by decide)) (fun u => k0_pay7 (rows m ρ (srcOf c 0) c 0 256 (by decide)) u (wPrev m c))
            (k0_pay3 (xVec m ρ c) (wOwn m c))))))

/-- The result once rows 256 to 512 are finished and the neighbours' terms of rows 512 to 768 are in. -/
def outMost (c : Dev nD) : Vec F S1024x2048 .f32 :=
  oUpd 256 256 (o_in (by decide)) (fun u => k0_pay17 (sc m ρ c) (k0_pay15 (rows m ρ (srcOf c 5) c 256 256 (by decide))) (k0_pay16 (wFar m c)) (constant S256x2048 .f32 0x00000000#32) u)
    (oUpd 512 256 (o_in (by decide)) (fun u => k0_pay14 (rows m ρ (srcOf c 12) c 512 256 (by decide)) u (wNext m c))
      (oUpd 512 256 (o_in (by decide)) (fun u => k0_pay13 (rows m ρ (srcOf c 2) c 512 256 (by decide)) u (wPrev m c)) (outHalf m ρ c)))

/-- Device `c`'s result. -/
def outAt (c : Dev nD) : Vec F S1024x2048 .f32 :=
  oUpd 960 64 (o_in (by decide)) (fun u => k0_pay1 (sc m ρ c) (rows m ρ (srcOf c 9) c 960 64 (by decide)) (wFar m c) u)
    (oUpd 896 64 (o_in (by decide)) (fun u => k0_pay22 (sc m ρ c) (rows m ρ (srcOf c 8) c 896 64 (by decide)) (wFar m c) u)
      (oUpd 768 128 (o_in (by decide)) (fun u => k0_pay21 (sc m ρ c) (rows m ρ (srcOf c 7) c 768 128 (by decide)) (wFar m c) u)
        (oUpd 512 256 (o_in (by decide)) (fun u => k0_pay20 (sc m ρ c) (rows m ρ (srcOf c 6) c 512 256 (by decide)) (wFar m c) u)
          (oUpd 768 256 (o_in (by decide)) (fun u => k0_pay19 (rows m ρ (srcOf c 13) c 768 256 (by decide)) u (wNext m c))
            (oUpd 768 256 (o_in (by decide)) (fun u => k0_pay18 (rows m ρ (srcOf c 3) c 768 256 (by decide)) u (wPrev m c)) (outMost m ρ c))))))

/-! ## The run -/

/-- A channel's departure but for the room at its destination. -/
def packed (c : Dev nD) (j : Ch) : sProp 𝕄 :=
  iprop(xPts m ρ c (xChunk c j) ∗ dutyTok ER (sndCell c j) 0 (0 : Du) ∗ dutyTok ER (rcvCell (dstOf c j) j) 0 (0 : Du) ∗ atPos ER (sndCell c j) 0 ∅ 0)

theorem packed_ready (c : Dev nD) : iprop((bigSep Finset.univ fun j : Ch => packed (F := F) m ρ c j) ∗ bigSep Finset.univ fun j : Ch => room (F := F) (dstOf c j) j)
    ⊢ bigSep Finset.univ fun j : Ch => ready (F := F) m ρ c j := by
  rw [← bigSep_sep']
  refine bigSep_each fun j => ?_
  unfold packed ready
  iintro ⟨⟨H1, H2, H3, H4⟩, H5⟩
  isplitl [H1]; · iexact H1
  isplitl [H5]; · iexact H5
  isplitl [H2]; · iexact H2
  isplitl [H3]; · iexact H3
  iexact H4

/-- What the copies of `w` start from. -/
def stock (c : Dev nD) : sProp 𝕄 :=
  iprop(idle (F := F) c 0 0 ∗ idle (F := F) c 1 0 ∗ need m c 0 0 ∗ need m c 1 0 ∗ need m c 0 1 ∗ need m c 1 1)

/-- What they end with. -/
def stockEnd (c : Dev nD) : sProp 𝕄 :=
  iprop(idle (F := F) c 0 2 ∗ idle (F := F) c 1 2 ∗ wPts m c (wBlk c 0 0) ∗ wPts m c (wBlk c 1 0) ∗ wPts m c (wBlk c 0 1) ∗ wPts m c (wBlk c 1 1))

/-- The buffers only one device touches. -/
def quiet (c : Dev nD) : sProp 𝕄 := iprop((vAny (F := F) c 0 ∗ vAny (F := F) c 1 ∗ vAny (F := F) c 2) ∗ xPts m ρ c (xOwn c) ∗ sPts m ρ c)

set_option maxHeartbeats 4000000 in
set_option maxRecDepth 4000 in
/-- The run: every departure returns, every channel's rows arrive, and the result is `outAt`. -/
theorem run_all (c : Dev nD) (f : Vec F S1024x2048 .f32) (Q : PUnit → sProp 𝕄) :
    recs m ρ K ⊢ iprop(meet (F := F) c -∗ (bigSep Finset.univ fun j : Ch => packed (F := F) m ρ c j) -∗ (bigSep Finset.univ fun j : Ch => due (F := F) c j)
      -∗ stock m c -∗ quiet m ρ c -∗ oPts c f -∗ own c (O₀ c)
      -∗ (((bigSep Finset.univ fun j : Ch => home (F := F) m ρ c j) ∗ (bigSep Finset.univ fun j : Ch => got (F := F) m ρ c j)
          ∗ atPos ER (barCell c) 1 ∅ 0 ∗ stockEnd m c ∗ quiet m ρ c ∗ oPts c (outAt m ρ c) ∗ own c 0) -∗ Runs c (.ret ⟨⟩) Q)
      -∗ Runs c (cc0_body xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5) Q) := by
  simp only [cc0_body_eq_skeleton]; unfold cc0_body_skel stock quiet stockEnd
  iintro #HI Hmeet Hpk Hdue ⟨Hi0, Hi1, Hn00, Hn10, Hn01, Hn11⟩ ⟨⟨Hv0, Hv1, Hv2⟩, Hx, Hs⟩ Ho HO Hk
  iapply (step_bind c)
  iapply (part1 m ρ K c _) $$ HI Hmeet HO
  iintro %v2 %v4 %v6 %v8 %v23 ⟨Hroom, Hbar, HO⟩
  ihave Hr := (packed_ready m ρ c) $$ [Hpk Hroom]
  · isplitl [Hpk] <;> iassumption
  ihave Hr := (Entails.of_eq (bigSep_ch _)) $$ Hr
  icases Hr with ⟨Hr0, Hr1, Hr2, Hr3, Hr4, Hr5, Hr6, Hr7, Hr8, Hr9, Hr10, Hr11, Hr12, Hr13⟩
  iapply (step_bind c)
  iapply (part2 m ρ K c v2 v23 _) $$ HI Hr0 Hr4 HO
  iintro %r2 ⟨Hf0, Hf4, HO⟩
  obtain ⟨v36, v49⟩ := r2
  iapply (step_bind c)
  iapply (part3 m ρ K c v2 _) $$ HI Hr10 Hr1 Hr5 HO
  iintro %r3 ⟨Hf10, Hf1, Hf5, HO⟩
  obtain ⟨v62, v75, v87, c4⟩ := r3
  iapply (step_bind c)
  iapply (part4 m ρ K c v2 v87 c4 _) $$ HI Hr11 Hr2 HO
  iintro %r4 ⟨Hf11, Hf2, HO⟩
  obtain ⟨v88, v101, v114, v117, c0⟩ := r4
  iapply (step_bind c)
  iapply (part5 m ρ K c v2 v117 c0 _) $$ HI Hr6 Hr12 HO
  iintro %r5 ⟨Hf6, Hf12, HO⟩
  obtain ⟨v127, v140⟩ := r5
  iapply (step_bind c)
  iapply (part6 m ρ K c v2 _) $$ HI Hr3 Hr7 Hr13 HO
  iintro %r6 ⟨Hf3, Hf7, Hf13, HO⟩
  obtain ⟨v153, v166, v179⟩ := r6
  iapply (step_bind c)
  iapply (part7 m ρ K c v2 v4 v179 _) $$ HI Hr8 Hr9 HO Hi0 Hn00
  iintro %v192 ⟨Hf8, Hf9, HO, Hw0⟩
  ihave HO := (Entails.of_eq (owing_all c)) $$ HO
  ihave Hdue := (Entails.of_eq (bigSep_ch _)) $$ Hdue
  icases Hdue with ⟨Hd0, Hd1, Hd2, Hd3, Hd4, Hd5, Hd6, Hd7, Hd8, Hd9, Hd10, Hd11, Hd12, Hd13⟩
  iapply (step_bind c)
  iapply (part8 m ρ K c v2 v6 _) $$ HI Hi1 Hn10 Hw0 Hv0 Hn01 Hx HO
  iintro ⟨Hw1, Hb00, Hw0, Hv0, Hx, HO⟩
  iapply (step_bind c)
  iapply (part9 m ρ K c v8 _ f _) $$ HI Ho Hw1 Hv1 Hw0 Hv2 HO
  iintro ⟨Ho, Hi1, Hb10, Hv1, Hi0, Hb01, Hv2, HO⟩
  iapply (step_bind c)
  iapply (part10 m ρ K c v4 v23 _ _ _) $$ HI Hi1 Hn11 Hs Hf0 Hd0 Hv1 Ho HO
  iintro ⟨Hw1, Hs, Hh0, Hg0, Hv1, Ho, HO⟩
  iapply (step_bind c)
  iapply (part11 m ρ K c v6 v49 _ _ _) $$ HI Hf10 Hd10 Hv2 Ho Hw1 HO
  iintro ⟨Hh10, Hg10, Hv2, Ho, Hw1, Hb11, HO⟩
  ihave Hv0 := (vAny_of c 0 _) $$ Hv0
  iapply (step_bind c)
  iapply (part12 m ρ K c v4 v62 _ _ _) $$ HI Hw1 Hv0 Hf1 Hd1 Hv1 Ho HO
  iintro ⟨Hi1, Hv0, Hh1, Hg1, Hv1, Ho, HO⟩
  iapply (step_bind c)
  iapply (part13 m ρ K c v6 v88 _ _ _) $$ HI Hf11 Hd11 Hv2 Ho HO
  iintro ⟨Hh11, Hg11, Hv2, Ho, HO⟩
  iapply (step_bind c)
  iapply (part14 m ρ K c v8 v36 v101 _ _ _ _) $$ HI Hf4 Hd4 Hv0 Ho Hf2 HO
  iintro %r14 ⟨Hh4, Hg4, Hv0, Ho, Hh2, HO⟩
  obtain ⟨v408, c0'⟩ := r14
  iapply (step_bind c)
  iapply (part15 m ρ K c v4 v6 v127 v408 c0' _ _ _) $$ HI Hd2 Hv1 Ho Hf12 Hd12 HO
  iintro ⟨Hg2, Hv1, Ho, Hh12, Hg12, HO⟩
  iapply (step_bind c)
  iapply (part16 m ρ K c v8 v75 _ _ _ _) $$ HI Hg12 Hv2 Ho Hf5 Hd5 Hv0 HO
  iintro ⟨Hg12, Hv2, Ho, Hh5, Hg5, Hv0, HO⟩
  iapply (step_bind c)
  iapply (part17 m ρ K c v4 v140 _ _ _ _ _ _ _) $$ HI Ho Hf3 Hd3 Hv1 HO
  iintro ⟨Ho, Hh3, Hg3, Hv1, HO⟩
  iapply (step_bind c)
  iapply (part18 m ρ K c v6 v166 _ _ _ _) $$ HI Ho Hf13 Hd13 Hv2 HO
  iintro ⟨Ho, Hh13, Hg13, Hv2, HO⟩
  iapply (step_bind c)
  iapply (part19 m ρ K c v8 v114 _ _ _ _) $$ HI Hf6 Hd6 Hv0 Ho Hf7 HO
  iintro ⟨Hh6, Hg6, Hv0, Ho, Hh7, HO⟩
  iapply (step_bind c)
  iapply (part20 m ρ K c v8 v153 v179 _ _ _ _) $$ HI Hd7 Hv0 Ho Hf8 HO
  iintro ⟨Hg7, Hv0, Ho, Hh8, HO⟩
  iapply (step_bind c)
  iapply (part21 m ρ K c v8 v192 _ _ _ _) $$ HI Hd8 Hv0 Ho Hf9 HO
  iintro ⟨Hg8, Hv0, Ho, Hh9, HO⟩
  simp only [Prog.lift, Prog.bind_op, Prog.bind_ret, Prog.pure_eq_ret]
  iapply (step_wait_rcv m ρ K c 9 (sS := rcvS 9) rfl rfl) $$ HI Hd9 HO
  iintro ⟨Hg9, HO⟩
  iapply (step_acc_last m ρ c (srcOf c 9) 9 (n := 64) rfl rfl 960 rfl (by decide) 0 _ _ (g := k0_pay1 (sc m ρ c)) (p := k0_off20 c) (by revert c; decide) (p' := ![0, 0, 0]) rfl) $$ Hg9 Hv0 Ho
  iintro ⟨Hg9, Hv0, Ho⟩
  ihave Hv0 := (vAny_of c 0 _) $$ Hv0
  ihave Hv1 := (vAny_of c 1 _) $$ Hv1
  ihave Hv2 := (vAny_of c 2 _) $$ Hv2
  unfold outAt outMost outHalf wOwn wPrev wNext wFar
  iapply Hk
  isplitl [Hh0 Hh1 Hh2 Hh3 Hh4 Hh5 Hh6 Hh7 Hh8 Hh9 Hh10 Hh11 Hh12 Hh13]
  · rw [bigSep_ch]
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    iexact Hh13
  isplitl [Hg0 Hg1 Hg2 Hg3 Hg4 Hg5 Hg6 Hg7 Hg8 Hg9 Hg10 Hg11 Hg12 Hg13]
  · rw [bigSep_ch]
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hg8]; · iexact Hg8
    isplitl [Hg9]; · iexact Hg9
    isplitl [Hg10]; · iexact Hg10
    isplitl [Hg11]; · iexact Hg11
    isplitl [Hg12]; · iexact Hg12
    iexact Hg13
  isplitl [Hbar]; · iexact Hbar
  isplitl [Hi0 Hi1 Hb00 Hb10 Hb01 Hb11]
  · isplitl [Hi0]; · iexact Hi0
    isplitl [Hi1]; · iexact Hi1
    isplitl [Hb00]; · iexact Hb00
    isplitl [Hb10]; · iexact Hb10
    isplitl [Hb01]; · iexact Hb01
    iexact Hb11
  isplitl [Hv0 Hv1 Hv2 Hx Hs]
  · isplitl [Hv0 Hv1 Hv2]
    · isplitl [Hv0]; · iexact Hv0
      isplitl [Hv1]; · iexact Hv1
      iexact Hv2
    isplitl [Hx]; · iexact Hx
    iexact Hs
  isplitl [Ho]; · iexact Ho
  iexact HO

end Cert.KernelIdealProof

end
-- ==== Proof.KernelIdealBody.lean ====
/-
The run of one device from what the launch deals it to what it leaves: buffers shared out before, put together after,
and every semaphore back at zero.
-/
module

public import proofs.«01_k».proof.Proof.KernelIdealRun

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## Closing the cells -/

omit [FloatOps F] in
/-- A step each member of a family can take with the help of `R`, taken by all. -/
theorem each_fupd {I : Type} [Fintype I] [DecidableEq I] {R : sProp 𝕄} [BI.Persistent R] {A B : I → sProp 𝕄}
    (h : ∀ i, iprop(R ∗ A i) ⊢ iprop(|={Set.univ}=> B i)) :
    R ⊢ iprop((bigSep Finset.univ A) -∗ |={Set.univ}=> bigSep Finset.univ B) := by
  have h1 : iprop((bigSep Finset.univ fun _ : I => R) ∗ bigSep Finset.univ A) ⊢ iprop(|={Set.univ}=> bigSep Finset.univ B) := by
    rw [← bigSep_sep']
    exact (bigSep_each h).trans (bigSep_fupd _ _)
  iintro #HR HA
  iapply h1
  isplitr
  · iapply (BI.bigSep_of_persistent (Finset.univ : Finset I) R); iexact HR
  · iexact HA

/-- A cell that has seen all its rounds is closed: its semaphore is at zero. -/
theorem close_cell (k : Dev nD × CK) (R : ℕ) (hR : ∀ r, R ≤ r → (Rd (F := F) m ρ).duties (kcell k) r = ∅) :
    iprop(recs m ρ K ∗ atPos ER (kcell k) R ∅ 0) ⊢ (iprop(|={Set.univ}=> semVal (kcell k) 0) : sProp 𝕄) := by
  iintro ⟨#HI, Ha⟩
  iapply (Rounds.cell_close ER (Rd m ρ) (Set.mem_univ (K k)) (fun h => h) (R := R) hR)
  isplitr
  · iapply (recs_inv m ρ K k); iexact HI
  · iexact Ha

/-! ## What a device starts from -/

/-- The tokens of the duties device `c` pays. -/
def payToks (c : Dev nD) : sProp 𝕄 :=
  iprop((dutyTok ER (barCell (sh 1 c)) 0 (0 : Du) ∗ dutyTok ER (barCell (sh 2 c)) 0 (1 : Du) ∗ dutyTok ER (barCell (sh 3 c)) 0 (2 : Du))
    ∗ (bigSep Finset.univ fun j : Ch => dutyTok ER (sndCell c j) 0 (0 : Du))
    ∗ (bigSep Finset.univ fun j : Ch => dutyTok ER (rcvCell (dstOf c j) j) 0 (0 : Du))
    ∗ (bigSep Finset.univ fun s : Fin 2 => bigSep Finset.univ fun r : Fin 2 => dutyTok ER (wcpCell c s) r.val (0 : Du)))

/-- Its places at its own cells, and those tokens. -/
def linear (c : Dev nD) : sProp 𝕄 := iprop((bigSep Finset.univ fun k : CK => atPos ER (kcell (c, k)) 0 ∅ 0) ∗ payToks c)

/-- The whole of `w` on device `c`. -/
def wAll (c : Dev nD) : sProp 𝕄 := ((c : Thread nD τ).loc main_arg1) ↦{fullShare} wArr m c

def start (c : Dev nD) : sProp 𝕄 :=
  iprop((∃ K, recs m ρ K ∗ linear c)
    ∗ (cred (tallyAt (barCell c) () 3) ∗ bigSep Finset.univ fun j : Ch => cred (tallyAt (rcvCell c j) () (credN (len j))))
    ∗ levAts L lv ∗ wAll m c)

/-- The three scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch c)
def Φ₁ (c : Dev nD) : sProp 𝕄 := iprop((bigSep Finset.univ fun k : CK => semVal (kcell (c, k)) 0) ∗ wAll m c ∗ scratch c)

omit [FloatOps F] in
/-- A family over a device's cells, by what they are for. -/
theorem bigSep_cells (Φ : CK → sProp 𝕄) : bigSep Finset.univ Φ
    = iprop(Φ none ∗ (((bigSep Finset.univ fun j : Ch => Φ (some (sndI j))) ∗ bigSep Finset.univ fun j : Ch => Φ (some (rcvI j)))
        ∗ bigSep Finset.univ fun s : Fin 2 => Φ (some (wcpI s)))) := by
  rw [bigSep_opt, bigSep_own]

omit [FloatOps F] in
theorem pack (c : Dev nD) : iprop((bigSep Finset.univ fun j : Ch => xPts m ρ c (xChunk c j)) ∗ (bigSep Finset.univ fun j : Ch => (dutyTok ER (sndCell c j) 0 (0 : Du) : sProp 𝕄))
      ∗ (bigSep Finset.univ fun j : Ch => dutyTok ER (rcvCell (dstOf c j) j) 0 (0 : Du)) ∗ bigSep Finset.univ fun j : Ch => atPos ER (sndCell c j) 0 ∅ 0)
    ⊢ bigSep Finset.univ fun j : Ch => packed (F := F) m ρ c j := by
  rw [← bigSep_sep', ← bigSep_sep', ← bigSep_sep']
  exact bigSep_each fun j => by unfold packed; iintro H; iexact H

omit [FloatOps F] in
theorem pack_due (c : Dev nD) : iprop((bigSep Finset.univ fun j : Ch => (cred (tallyAt (rcvCell c j) () (credN (len j))) : sProp 𝕄))
      ∗ bigSep Finset.univ fun j : Ch => atPos ER (rcvCell c j) 0 ∅ 0)
    ⊢ bigSep Finset.univ fun j : Ch => due (F := F) c j := by
  rw [← bigSep_sep']
  exact bigSep_each fun j => by unfold due; iintro H; iexact H

omit [FloatOps F] in
theorem unpack_home (c : Dev nD) : (bigSep Finset.univ fun j : Ch => home (F := F) m ρ c j)
    ⊢ iprop((bigSep Finset.univ fun j : Ch => xPts m ρ c (xChunk c j)) ∗ bigSep Finset.univ fun j : Ch => atPos ER (sndCell c j) 1 ∅ 0) := by
  rw [← bigSep_sep']
  exact bigSep_each fun j => by unfold home; iintro H; iexact H

omit [FloatOps F] in
theorem unpack_got (c : Dev nD) : (bigSep Finset.univ fun j : Ch => got (F := F) m ρ c j)
    ⊢ iprop((bigSep Finset.univ fun j : Ch => room (F := F) c j) ∗ bigSep Finset.univ fun j : Ch => atPos ER (rcvCell c j) 1 ∅ 0) := by
  rw [← bigSep_sep']
  exact bigSep_each fun j => by
    unfold got room; iintro ⟨H1, H2⟩
    isplitl [H1]
    · iexists landed m ρ c; iexact H1
    · iexact H2

/-! ## The run -/

set_option maxHeartbeats 2000000 in
/-- From what the launch deals, the run leaves the staged inputs as they were, the result in place, the buffers whole
    and every semaphore at zero. -/
theorem sound_body (c : Dev nD) (f : Vec F S1024x2048 .f32) (Kt : PUnit → sProp 𝕄) :
    recs m ρ K ⊢ iprop(linear c -∗ cred (tallyAt (barCell c) () 3) -∗ (bigSep Finset.univ fun j : Ch => cred (tallyAt (rcvCell c j) () (credN (len j))))
      -∗ levAts L lv -∗ wAll m c -∗ scratch (F := F) c -∗ own c (O₀ c)
      -∗ (((c : Thread nD τ).loc cc0_stg0_0) ↦{fullShare} xstg m ρ c) -∗ sPts m ρ c -∗ oPts c f
      -∗ ((Φ₁ m c ∗ own c 0 ∗ (((c : Thread nD τ).loc cc0_stg0_0) ↦{fullShare} xstg m ρ c) ∗ sPts m ρ c ∗ oPts c (outAt m ρ c)) -∗ Kt ⟨⟩)
      -∗ Runs c (cc0_body xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5) Kt) := by
  unfold linear payToks scratch wAll
  iintro #HI ⟨Hat, ⟨Hbt, Hst, Hrt, Hwt⟩⟩ Hcb Hcr #Hlev Hw ⟨⟨%f0, Hb⟩, ⟨%f1, Ht⟩, ⟨%f2, Hv⟩⟩ HO Hx Hs Ho Hk
  ihave Hat := (Entails.of_eq (bigSep_cells _)) $$ Hat
  icases Hat with ⟨Hab, ⟨Has, Har⟩, Haw⟩
  ihave Haw := (Entails.of_eq (bigSep_two _)) $$ Haw
  icases Haw with ⟨Haw0, Haw1⟩
  ihave Hwt := (Entails.of_eq (bigSep_two _)) $$ Hwt
  icases Hwt with ⟨Hwt0, Hwt1⟩
  ihave Hwt0 := (Entails.of_eq (bigSep_two _)) $$ Hwt0
  icases Hwt0 with ⟨Hwt00, Hwt01⟩
  ihave Hwt1 := (Entails.of_eq (bigSep_two _)) $$ Hwt1
  icases Hwt1 with ⟨Hwt10, Hwt11⟩
  ihave Hx := (Entails.of_eq (x_share m ρ c)) $$ Hx
  icases Hx with ⟨Hxo, Hxc⟩
  ihave Hb := (b_share (F := F) c f0) $$ Hb
  icases Hb with ⟨Hbo, Hroom⟩
  ihave Hw := (Entails.of_eq (w_share m c)) $$ Hw
  icases Hw with ⟨Hw00, Hw01, Hw11, Hw10⟩
  ihave Ht := (t_share (F := F) c f1) $$ Ht
  icases Ht with ⟨Ht0, Ht1⟩
  ihave Hv := (v_share (F := F) c f2) $$ Hv
  ihave Hpk := (pack m ρ c) $$ [Hxc Hst Hrt Has]
  · isplitl [Hxc]; · iexact Hxc
    isplitl [Hst]; · iexact Hst
    isplitl [Hrt]; · iexact Hrt
    iexact Has
  ihave Hdue := (pack_due (F := F) c) $$ [Hcr Har]
  · isplitl [Hcr]; · iexact Hcr
    iexact Har
  iapply (run_all m ρ K c f Kt) $$ HI [Hbt Hroom Hab Hcb] Hpk Hdue [Ht0 Ht1 Haw0 Haw1 Hw00 Hw01 Hw11 Hw10 Hwt00 Hwt01 Hwt10 Hwt11] [Hv Hxo Hs] Ho HO
  · unfold meet
    isplitl [Hbt]; · iexact Hbt
    isplitl [Hroom]; · iexact Hroom
    isplitl [Hab]; · iexact Hab
    isplitl [Hcb]; · iexact Hcb
    iexact Hlev
  · unfold stock idle need
    isplitl [Ht0 Haw0]
    · isplitl [Ht0]; · iexact Ht0
      isplitl [Haw0]; · iexact Haw0
      iapply (recs_reached m ρ K (c, some (wcpI 0))); iexact HI
    isplitl [Ht1 Haw1]
    · isplitl [Ht1]; · iexact Ht1
      isplitl [Haw1]; · iexact Haw1
      iapply (recs_reached m ρ K (c, some (wcpI 1))); iexact HI
    isplitl [Hw00 Hwt00]
    · isplitl [Hw00]; · iexact Hw00
      iexact Hwt00
    isplitl [Hw10 Hwt10]
    · isplitl [Hw10]; · iexact Hw10
      iexact Hwt10
    isplitl [Hw01 Hwt01]
    · isplitl [Hw01]; · iexact Hw01
      iexact Hwt01
    isplitl [Hw11]; · iexact Hw11
    iexact Hwt11
  · unfold quiet
    isplitl [Hv]; · iexact Hv
    isplitl [Hxo]; · iexact Hxo
    iexact Hs
  unfold stockEnd quiet idle
  iintro ⟨Hh, Hg, Hab, ⟨⟨Ht0, Haw0, -⟩, ⟨Ht1, Haw1, -⟩, Hw00, Hw10, Hw01, Hw11⟩, ⟨Hv, Hxo, Hs⟩, Ho, HO⟩
  ihave Hh := (unpack_home m ρ c) $$ Hh
  icases Hh with ⟨Hxc, Has⟩
  ihave Hg := (unpack_got m ρ c) $$ Hg
  icases Hg with ⟨Hroom, Har⟩
  imod (close_cell m ρ K (c, none) 1 (duties_bar_later m ρ c)) $$ [Hab] with Hab
  · isplitr; · iexact HI
    iexact Hab
  imod (each_fupd (R := recs m ρ K) (A := fun j : Ch => atPos ER (sndCell c j) 1 ∅ 0) (B := fun j : Ch => semVal (sndCell c j) 0)
    fun j : Ch => close_cell m ρ K (c, some (sndI j)) 1 (duties_snd_later m ρ c j)) $$ HI Has with Has
  imod (each_fupd (R := recs m ρ K) (A := fun j : Ch => atPos ER (rcvCell c j) 1 ∅ 0) (B := fun j : Ch => semVal (rcvCell c j) 0)
    fun j : Ch => close_cell m ρ K (c, some (rcvI j)) 1 (duties_rcv_later m ρ c j)) $$ HI Har with Har
  imod (close_cell m ρ K (c, some (wcpI 0)) 2 (duties_wcp_later m ρ c 0)) $$ [Haw0] with Haw0
  · isplitr; · iexact HI
    iexact Haw0
  imod (close_cell m ρ K (c, some (wcpI 1)) 2 (duties_wcp_later m ρ c 1)) $$ [Haw1] with Haw1
  · isplitr; · iexact HI
    iexact Haw1
  ihave Hx := (Entails.of_eq (x_share m ρ c).symm) $$ [Hxo Hxc]
  · isplitl [Hxo]; · iexact Hxo
    iexact Hxc
  ihave Hb := (b_join (F := F) c) $$ [Hbo Hroom]
  · isplitl [Hbo]; · iexact Hbo
    iexact Hroom
  ihave Hw := (Entails.of_eq (w_share m c).symm) $$ [Hw00 Hw01 Hw11 Hw10]
  · isplitl [Hw00]; · iexact Hw00
    isplitl [Hw01]; · iexact Hw01
    isplitl [Hw11]; · iexact Hw11
    iexact Hw10
  ihave Ht := (t_join (F := F) c) $$ [Ht0 Ht1]
  · isplitl [Ht0]; · iexact Ht0
    iexact Ht1
  ihave Hv := (v_join (F := F) c) $$ Hv
  iapply (step_done c)
  iapply Hk
  unfold Φ₁ wAll scratch
  isplitl [Hab Has Har Haw0 Haw1 Hw Hb Ht Hv]
  · isplitl [Hab Has Har Haw0 Haw1]
    · iapply (Entails.of_eq (bigSep_cells (F := F) fun k : CK => semVal (kcell (c, k)) 0).symm)
      isplitl [Hab]; · iexact Hab
      isplitl [Has Har]
      · isplitl [Has]; · iexact Has
        iexact Har
      iapply (Entails.of_eq (bigSep_two (F := F) fun s : Fin 2 => semVal (kcell (c, some (wcpI s))) 0).symm)
      isplitl [Haw0]; · iexact Haw0
      iexact Haw1
    isplitl [Hw]; · iexact Hw
    isplitl [Hb]; · iexact Hb
    isplitl [Ht]; · iexact Ht
    iexact Hv
  isplitl [HO]; · iexact HO
  isplitl [Hx]; · iexact Hx
  isplitl [Hs]; · iexact Hs
  iexact Ho

/-! ## The pipeline's one point -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (xstg m ρ c) ∗ stg c cc0_stg1_0 (sxstg m ρ c)
    ∗ stg c cc0_stg2_0 (swstg m ρ c) ∗ stg c cc0_stg3_0 (outAt m ρ c))

theorem fetched (t : Fin cfg0.N) : (cfg0.win (0 : Fin 4)).fetch t = true ∧ (cfg0.win (1 : Fin 4)).fetch t = true ∧ (cfg0.win (2 : Fin 4)).fetch t = true := by
  rw [fin_N0 t]; exact ⟨rfl, rfl, rfl⟩

theorem point_body (c : Dev nD) : bodyPre m ρ c ⊢ Runs c (cc0_body xM (Memref.isWhole_whole _) wM (Memref.isWhole_whole _) sxM (Memref.isWhole_whole _) swM (Memref.isWhole_whole _) oM (Memref.isWhole_whole _)
        bM (Memref.isWhole_whole _) tM (Memref.isWhole_whole _) vM (Memref.isWhole_whole _) cc0_scratch3 cc0_scratch4 cc0_scratch5) (fun _ => bodyPost m ρ c) := by
  unfold bodyPre Φ₀ start
  iintro ⟨⟨⟨⟨%K, #HI, Hlin⟩, ⟨Hcb, Hcr⟩, Hlev, Hw⟩, Hscr⟩, Howe, ⟨%d0, %g0, %hg0, Hx⟩, ⟨%d1, %g1, %hg1, Hsx⟩, ⟨%d2, %g2, %hg2, Hsw⟩, ⟨%d3, %g3, %hg3, Ho⟩⟩
  have h0 : g0 = xstg m ρ c := by rw [hg0]; unfold Dat.before; rw [if_pos (fetched t0_0).1]; rfl
  have h1 : g1 = sxstg m ρ c := by rw [hg1]; unfold Dat.before; rw [if_pos (fetched t0_0).2.1]; rfl
  have h2 : g2 = swstg m ρ c := by rw [hg2]; unfold Dat.before; rw [if_pos (fetched t0_0).2.2]; rfl
  subst h0 h1 h2
  unfold Dat.owesAt Pipeline.owesWithin
  icases Howe with ⟨%W, %hW, HO⟩
  iapply (sound_body m ρ K c g3 fun _ => bodyPost m ρ c) $$ HI Hlin Hcb Hcr Hlev Hw Hscr [HO] Hx [Hsx Hsw] [Ho]
  · unfold own; iexists W; iexact HO
  · unfold sPts
    isplitl [Hsx]; · iexact Hsx
    iexact Hsw
  · unfold oPts; iexact Ho
  unfold bodyPost Dat.owesAt Pipeline.owesWithin own sPts oPts
  iintro ⟨HΦ, ⟨%W', HO⟩, Hx, ⟨Hsx, Hsw⟩, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Ho

set_option maxRecDepth 20000 in
/-- The pipeline's obligation of its body, on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole_eq]
  exact point_body m ρ c

end Cert.KernelIdealProof

end
-- ==== Proof.KernelIdealLaunch.lean ====
/-
The launch: the cells are opened on every device at once, each device is dealt the tokens of the duties it pays and the
credit it waits with, and the whole mesh runs.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The cells and the tokens -/

/-- The kernel's own transfer semaphores. -/
def osem : Fin 30 → SemLoc sig := fun i => .dma (ownS i)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have hc : c = c' := by
    have h := congrArg (fun g : GSem nD τ sig => g.1.1) h
    cases k <;> cases k' <;> exact h
  subst hc
  have hs := congrArg Prod.snd h
  cases k with
  | none => cases k' with
    | none => rfl
    | some i' => exact absurd (show SemLoc.reg barS = SemLoc.dma (ownS i') from hs) (by simp)
  | some i => cases k' with
    | none => exact absurd (show SemLoc.dma (ownS i) = SemLoc.reg barS from hs) (by simp)
    | some i' =>
      have hv : (ownS i).val = (ownS i').val := congrArg Fin.val (SemLoc.dma.inj hs)
      have hv : 4 + i.val = 4 + i'.val := hv
      rw [show i = i' from Fin.ext (by omega)]

def allCells : Finset (GSem nD τ sig) := Finset.univ.map ⟨kcell, kcell_injective⟩

/-- The duties of one device's cells: three at its barrier, one at each channel's two ends, two at each slot of `w`. -/
abbrev Duty : Type := Du ⊕ (Ch ⊕ Ch) ⊕ Fin 2 × Fin 2

def tokOf (cd : Dev nD × Duty) : GSem nD τ sig × ℕ × Du :=
  match cd.2 with
  | .inl d => (barCell cd.1, 0, d)
  | .inr (.inl (.inl j)) => (sndCell cd.1 j, 0, 0)
  | .inr (.inl (.inr j)) => (rcvCell cd.1 j, 0, 0)
  | .inr (.inr sr) => (wcpCell cd.1 sr.1, sr.2.val, 0)

/-- Which duty a token is for. -/
def dutyOf (x : GSem nD τ sig × ℕ × Du) : Dev nD × Duty :=
  (x.1.1.1, match role x.1.2 with
    | .bar => .inl x.2.2
    | .snd j => .inr (.inl (.inl j))
    | .rcv j => .inr (.inl (.inr j))
    | .wcp s => .inr (.inr (s, if x.2.1 = 0 then 0 else 1))
    | .other => .inl 0)

theorem dutyOf_tokOf (cd : Dev nD × Duty) : dutyOf (tokOf cd) = cd := by
  obtain ⟨c, d | (j | j) | ⟨s, r⟩⟩ := cd
  · rfl
  · unfold dutyOf tokOf; rw [role_snd]
  · unfold dutyOf tokOf; rw [role_rcv]
  · unfold dutyOf tokOf; rw [role_wcp]; fin_cases r <;> rfl

def allToks : Finset (GSem nD τ sig × ℕ × Du) := Finset.univ.map ⟨tokOf, Function.LeftInverse.injective dutyOf_tokOf⟩

def u₀ : UU :=
  (initOf (Pipeline.cells cfgs cellOf_inj) (Pipeline.launchToks cfgs cellOf_inj), initOf allCells allToks)

/-- The tokens of the duties of device `c`'s own cells. -/
def toks (c : Dev nD) : sProp 𝕄 :=
  iprop((dutyTok ER (barCell c) 0 (0 : Du) ∗ dutyTok ER (barCell c) 0 (1 : Du) ∗ dutyTok ER (barCell c) 0 (2 : Du))
    ∗ (bigSep Finset.univ fun j : Ch => dutyTok ER (sndCell c j) 0 (0 : Du))
    ∗ (bigSep Finset.univ fun j : Ch => dutyTok ER (rcvCell c j) 0 (0 : Du))
    ∗ (bigSep Finset.univ fun s : Fin 2 => bigSep Finset.univ fun r : Fin 2 => dutyTok ER (wcpCell c s) r.val (0 : Du)))

/-- What the launch deals device `c` before the cells are open. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What it holds of them after. -/
def G' (c : Dev nD) : sProp 𝕄 := iprop(∃ K, recs m ρ K ∗ linear c)

omit [FloatOps F] in
/-- A product over a choice of two kinds, as the two products. -/
theorem bigSep_either {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

omit [FloatOps F] in
theorem toks_eq : bigSep allToks (fun x => (dutyTok ER x.1 x.2.1 x.2.2 : sProp 𝕄)) = bigSep Finset.univ fun c : Dev nD => toks (F := F) c := by
  unfold allToks
  rw [BI.bigSep_map, BI.bigSep_univ_prod]
  refine BI.bigSep_congr fun c _ => ?_
  rw [bigSep_either, bigSep_either, bigSep_either, BI.bigSep_univ_prod, bigSep_du]
  unfold toks
  refine BI.Entails.antisymm (show _ ⊢ (_ : sProp 𝕄) from ?_) (show _ ⊢ (_ : sProp 𝕄) from ?_)
  · iintro ⟨H1, ⟨H2, H3⟩, H4⟩
    isplitl [H1]; · iexact H1
    isplitl [H2]; · iexact H2
    isplitl [H3]; · iexact H3
    iexact H4
  · iintro ⟨H1, H2, H3, H4⟩
    isplitl [H1]; · iexact H1
    isplitl [H2 H3]
    · isplitl [H2]; · iexact H2
      iexact H3
    iexact H4

/-- The records of the rounds, minted. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [BI.bigSep_map, BI.bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold G; simp only [bigSep_sep']
  isplitl [Hst]; · iexact Hst
  isplitl [Hat Hr]
  · isplitl [Hat] <;> iassumption
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero: its barrier, and its own thirty. -/
theorem sems0_eq (c : Dev nD) : (bigSep Finset.univ fun k : CK => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, bigSep_opt]; rfl

/-- Each device's cells, opened. -/
theorem core_open (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  have h : iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) := by
    rw [← bigSep_sep']
    exact (bigSep_each fun k => (Rounds.body_intro ER (Rd m ρ) (kcell (c, k))).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod h $$ [Hv Hst] with Hinv
  · isplitl [Hv] <;> iassumption
  imodintro
  isplitl [Hinv]; · iexact Hinv
  isplitl [Hat]; · iexact Hat
  iexact Htok

omit [FloatOps F] in
/-- Tokens of one kind, dealt `k` places round. -/
theorem deal (k : ℕ) (hk : k ≤ 4) (Φ : Dev nD → sProp 𝕄) : (bigSep Finset.univ Φ) = bigSep Finset.univ fun c : Dev nD => Φ (sh k c) :=
  BI.bigSep_univ_equiv (turn k hk) Φ

omit [FloatOps F] in
theorem deal_rcv : (bigSep Finset.univ fun c : Dev nD => bigSep Finset.univ fun j : Ch => (dutyTok ER (rcvCell c j) 0 (0 : Du) : sProp 𝕄))
    = bigSep Finset.univ fun c : Dev nD => bigSep Finset.univ fun j : Ch => dutyTok ER (rcvCell (dstOf c j) j) 0 (0 : Du) := by
  rw [BI.bigSep_univ_comm, BI.bigSep_univ_comm fun (c : Dev nD) (j : Ch) => (dutyTok ER (rcvCell (dstOf c j) j) 0 (0 : Du) : sProp 𝕄)]
  exact BI.bigSep_congr fun j _ => deal (dist j) (by have := dist_le j; omega) fun c => dutyTok ER (rcvCell c j) 0 (0 : Du)

omit [FloatOps F] in
/-- Every token goes to the device that pays its duty. -/
theorem toks_dealt : (bigSep Finset.univ fun c : Dev nD => toks (F := F) c) ⊢ bigSep Finset.univ fun c : Dev nD => payToks (F := F) c := by
  unfold toks payToks
  simp only [bigSep_sep']
  rw [deal 1 (by decide) (fun c : Dev nD => (dutyTok ER (barCell c) 0 (0 : Du) : sProp 𝕄)),
    deal 2 (by decide) (fun c : Dev nD => (dutyTok ER (barCell c) 0 (1 : Du) : sProp 𝕄)),
    deal 3 (by decide) (fun c : Dev nD => (dutyTok ER (barCell c) 0 (2 : Du) : sProp 𝕄)), deal_rcv]

/-- What the opened cells and the tokens make, device by device. -/
theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  have hG (K : Dev nD × CK → ℕ) : iprop((bigSep Finset.univ fun _ : Dev nD => recs m ρ K) ∗ (bigSep Finset.univ fun c : Dev nD => linear (F := F) c)) ⊢ bigSep Finset.univ (G' m ρ) := by
    rw [← bigSep_sep']
    exact bigSep_each fun c => by unfold G'; iintro H; iexists K; iexact H
  rw [bigSep_sep', bigSep_sep', ← BI.bigSep_univ_prod (fun ck : Dev nD × CK => iprop(∃ κ : ℕ, cellInv ER (Rd m ρ) κ (kcell ck))),
    BI.bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← BI.bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_dealt (F := F)) $$ Htok
  iapply (hG K)
  isplitr
  · iapply (BI.bigSep_of_persistent (Finset.univ : Finset (Dev nD)) (recs m ρ K))
    unfold recs; rw [bigSep_sep']
    isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_each fun c => core_open m ρ c).trans (bigSep_fupd _ _)).trans (BI.fupd_mono (regroup m ρ))

/-! ## The launch credit -/

omit [FloatOps F] in
/-- What the devices owe at launch, as each device's credit: three units at its barrier and each channel's arrival. -/
theorem creds (c : Dev nD) : (Pipeline.launchCred O₀ c : sProp 𝕄)
    ⊢ iprop(cred (tallyAt (barCell c) () 3) ∗ bigSep Finset.univ fun j : Ch => cred (tallyAt (rcvCell c j) () (credN (len j)))) := by
  have hO : O₀ = fun d : Dev nD => (∑ j ∈ (Finset.univ : Finset Ch), tallyAt (rcvCell (dstOf d j) j) () (credN (len j)))
      + tallyAt (barCell (sh 3 d)) () 1 + tallyAt (barCell (sh 2 d)) () 1 + tallyAt (barCell (sh 1 d)) () 1 := by
    funext d; unfold O₀ owedTo; rw [Finset.sdiff_empty]
  have hbar (k : ℕ) (hk : k ≤ 4) : (Pipeline.launchCred (fun d : Dev nD => tallyAt (barCell (sh k d)) () 1) c : sProp 𝕄) ⊢ cred (tallyAt (barCell c) () 1) :=
    Pipeline.launchCred_tallyAt (.reg barS) (sh k) (sh (4 - k)) (turn k hk).right_inv (turn k hk).left_inv () 1 c
  have hrcv : (bigSep Finset.univ fun j : Ch => (Pipeline.launchCred (fun d : Dev nD => tallyAt (rcvCell (dstOf d j) j) () (credN (len j))) c : sProp 𝕄))
      ⊢ bigSep Finset.univ fun j : Ch => cred (tallyAt (rcvCell c j) () (credN (len j))) := bigSep_each fun j =>
    Pipeline.launchCred_tallyAt (.dma (rcvS j)) (fun d => dstOf d j) (fun d => srcOf d j) (fun d => dstOf_srcOf d j) (fun d => srcOf_dstOf d j) () (credN (len j)) c
  have h3 : iprop(cred (tallyAt (barCell c) () 1) ∗ cred (tallyAt (barCell c) () 1) ∗ cred (tallyAt (barCell c) () 1))
      ⊢ (cred (tallyAt (barCell c) () 3) : sProp 𝕄) := by
    rw [show tallyAt (barCell c) () 3 = tallyAt (barCell c) () 1 + (tallyAt (barCell c) () 1 + tallyAt (barCell c) () 1) by
      rw [tallyAt_add, tallyAt_add]]
    iintro ⟨H1, H2⟩
    iapply (cred_add _ _).2
    isplitl [H1]; · iexact H1
    iapply (cred_add _ _).2
    iexact H2
  rw [hO, Pipeline.launchCred_add, Pipeline.launchCred_add, Pipeline.launchCred_add, Pipeline.launchCred_sum]
  iintro ⟨⟨⟨Hr, H3⟩, H2⟩, H1⟩
  ihave H1 := (hbar 1 (by decide)) $$ H1
  ihave H2 := (hbar 2 (by decide)) $$ H2
  ihave H3 := (hbar 3 (by decide)) $$ H3
  ihave Hr := hrcv $$ Hr
  isplitl [H1 H2 H3]
  · iapply h3
    isplitl [H1]; · iexact H1
    isplitl [H2]; · iexact H2
    iexact H3
  · iexact Hr

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show Pipeline.unscopedRest (Ix := Unit) (Name := ℕ) (U := UU) (Lvl := ℕ) cfg0.spec c (fun b => m ((c : Thread nD τ).loc b)) = wAll m c from unscopedRest0_eq c _]
  iintro ⟨Hw, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ wAll m c) ∗ Pipeline.ownSems0 osem c ∗ Pipeline.scopedRest cfg0.spec c) := by
  rw [show (dats m ρ 0 c).Φ (Fin.last cfg0.N) = Φ₁ m c from rfl, scopedRest0_eq]
  unfold Φ₁ scratch
  rw [sems0_eq]
  iintro ⟨⟨Hu, Hos⟩, Hw, Hr⟩
  isplitl [Hu Hw]
  · isplitl [Hu] <;> iassumption
  isplitl [Hos]; · iexact Hos
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ## The run of the mesh -/

/-- The contents of window `w`'s array on device `c` after the run. -/
def finalA (c : Dev nD) (w : Fin cfg0.W) : Buf (Elt F) ((cfg0.win w).arr.view.loc (c : Thread nD τ)) := (dats m ρ 0 c).arrAt w cfg0.N

/-- The final states: every window's array and `w` as computed. -/
def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- On the four devices, from any memory with every semaphore at zero, every fair run ends, with the windows' arrays at
    their computed contents, `w` unchanged and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ wAll m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold wAll
      iintro ⟨⟨Hu, Hw⟩, -, HSI⟩
      ihave %hw := (SI_pointsTo_agree (st := s') (ℓ := (c : Thread nD τ).loc main_arg1) (I := Finset.univ) (q := fullShare) (f := wArr m c)) $$ [HSI Hw]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hw i (Finset.mem_univ i)⟩
      · iexact HSI)
    (hQ := fun _ h hs => ⟨fun c => ⟨fun w => (h c).1 w, (h c).2.2.2⟩, sem_eq_zero hs fun c => (h c).2.2.1⟩)

end Cert.KernelIdealProof

end
-- ==== Proof.KernelIdealEnds.lean ====
/-
What a run of the mesh ends with: the arguments unchanged and every device's result at `outAt`.
-/
module

public import proofs.«01_k».proof.Proof.KernelIdealLaunch
public import proofs.«01_k».proof.Proof.Gen.KernelIdeal.Points
public import Idealize.ShloMosaic.Lib.Pipeline.Value

@[expose] public section

noncomputable section

namespace Cert.KernelIdealProof

open Cert.KernelIdeal Cert.KernelIdeal.Gen
open Idealize.ShloMosaic Idealize.ShloMosaic.ValueIdx
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- Each window is its whole array: an element of its one block is the array's element at the same index. -/
theorem emb0 (t : Fin cfg0.N) (i : S4096x1024.Idx) : (win0_0.blk t).view.emb i = i :=
  funext fun a => Fin.ext (win0_0.rect_emb_val_of_index_zero t a rfl i)
theorem emb1 (t : Fin cfg0.N) (i : S1.Idx) : (win0_1.blk t).view.emb i = i :=
  funext fun a => Fin.ext (win0_1.rect_emb_val_of_index_zero t a rfl i)
theorem emb2 (t : Fin cfg0.N) (i : S1.Idx) : (win0_2.blk t).view.emb i = i :=
  funext fun a => Fin.ext (win0_2.rect_emb_val_of_index_zero t a rfl i)
theorem emb3 (t : Fin cfg0.N) (i : S1024x2048.Idx) : (win0_3.blk t).view.emb i = i :=
  funext fun a => Fin.ext (win0_3.rect_emb_val_of_index_zero t a rfl i)

/-- The staged arguments are the arguments. -/
theorem xstg_eq (c : Dev nD) : xstg m ρ c = m ((c : Thread nD τ).loc main_arg0) :=
  funext fun i => congrArg (m ((c : Thread nD τ).loc main_arg0)) (emb0 t0_0 i)
theorem sxstg_eq (c : Dev nD) : sxstg m ρ c = m ((c : Thread nD τ).loc main_arg2) :=
  funext fun i => congrArg (m ((c : Thread nD τ).loc main_arg2)) (emb1 t0_0 i)
theorem swstg_eq (c : Dev nD) : swstg m ρ c = m ((c : Thread nD τ).loc main_arg3) :=
  funext fun i => congrArg (m ((c : Thread nD τ).loc main_arg3)) (emb2 t0_0 i)

/-- The result's array ends at `outAt`. -/
theorem finalA_out (c : Dev nD) : finalA m ρ c (3 : Fin 4) = outAt m ρ c :=
  (dats m ρ 0 c).arrAt_eq_of_cover 3 (outAt m ρ c)
    (fun t _ => funext fun i => congrArg (outAt m ρ c) (emb3 t i).symm)
    (fun i => ⟨t0_0, flush0_3 _, Finset.mem_map.mpr ⟨i, Finset.mem_univ _, emb3 t0_0 i⟩⟩)

/-- From any memory with every semaphore at zero, every fair run on the four devices ends with each device's result at
    `outAt`, the four arguments unchanged, and every semaphore at zero. -/
theorem run_ends : θ_run defs (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨((h.1 c).1 3).trans (finalA_out m ρ c),
    ((h.1 c).1 0).trans ((dats m ρ 0 c).arrAt_in (0 : Fin 4) rfl _),
    (h.1 c).2,
    ((h.1 c).1 1).trans ((dats m ρ 0 c).arrAt_in (1 : Fin 4) rfl _),
    ((h.1 c).1 2).trans ((dats m ρ 0 c).arrAt_in (2 : Fin 4) rfl _)⟩, h.2⟩) (run_main m ρ)

end Cert.KernelIdealProof

end
-- ==== Proof.KernelIdealValue.lean ====
/-
The result's value over the reals: every row of device `c`'s result is its four partial products added, scaled by the
product of the two scales and cut off below at zero.
-/
module

public import proofs.«01_k».proof.Proof.KernelIdealEnds
public import Idealize.ShloMosaic.Lib.MatmulPlain
public import Idealize.ShloMosaic.Lib.ValueIdxCoords
public import Idealize.ShloMosaic.PureOps.Ideal.Laws

@[expose] public section

noncomputable section

namespace Cert.KernelIdealValue

open Cert.KernelIdeal Cert.KernelIdeal.Gen Cert.KernelIdealProof
open Idealize.ShloMosaic Idealize.ShloMosaic.ValueIdx
open Idealize.ShloMosaic.TcCoe
open scoped BigOperators

variable (m : (ℓ : Loc nD τ sig) → Buf (Elt Ideal) ℓ) (ρ : Dev nD → PrngReg)

/-- An 8-bit integer's value. -/
def num (b : BitVec 8) : EReal := ((b.toInt : ℝ) : EReal)

/-- One entry of the product of rows of integers with a converted block of `w`. -/
def dotAt {n : ℕ} (v : Vec Ideal (⟨3, ![1, n, 1024]⟩ : Shape) .i8) (W : Vec Ideal S1x1024x2048 .bf16) (p : Fin n) (q : Fin 2048) : EReal :=
  ∑ k : Fin 1024, num (v (ix3 (0 : Fin 1) p k)) * W (ix3 (0 : Fin 1) k q)

/-- The matrix unit's product of converted rows with a converted block of `w`, onto zero. -/
theorem product_apply {n : ℕ} (v : Vec Ideal (⟨3, ![1, n, 1024]⟩ : Shape) .i8) (W : Vec Ideal S1x1024x2048 .bf16)
    (h2 : (⟨3, ![1, n, 1024]⟩ : Shape).ShapeCasts ⟨2, ![n, 1024]⟩) (h3 : S1x1024x2048.ShapeCasts S1024x2048) (p : Fin n) (q : Fin 2048) :
    FloatOps.matmul (F := Ideal) (φ₁ := .bf16) (φ₂ := .bf16) (DotDims.plain n 1024 2048) none (sitofp (F := Ideal) .bf16 (shapeCast ⟨2, ![n, 1024]⟩ v h2)) (shapeCast S1024x2048 W h3)
      (constant ⟨2, ![n, 2048]⟩ .f32 0x00000000#32) (ix2 p q) = dotAt v W p q := by
  refine (Ideal.matmul_plain_apply (M := n) (K := 1024) (N := 2048) none _ _ _ p q).trans ?_
  refine (congrArg₂ (· + ·) (show (constant ⟨2, ![n, 2048]⟩ .f32 0x00000000#32 : FVec Ideal _ .f32) (ix2 p q) = 0 from Ideal.ofBits_zero_f32) ?_).trans (zero_add _)
  refine Finset.sum_congr rfl fun k _ => congrArg₂ (· * ·) ?_ ?_
  · refine congrArg num ((shapeCast_dropUnit_apply _ v h2 (ix2 p k)).trans (congrArg v ?_))
    funext a; match a with | ⟨0, _⟩ => rfl | ⟨1, _⟩ => rfl | ⟨2, _⟩ => rfl
  · refine (shapeCast_dropUnit_apply _ W h3 (ix2 k q)).trans (congrArg W ?_)
    funext a; match a with | ⟨0, _⟩ => rfl | ⟨1, _⟩ => rfl | ⟨2, _⟩ => rfl

/-- A product added to what is there. -/
theorem added_apply {n : ℕ} (v : Vec Ideal (⟨3, ![1, n, 1024]⟩ : Shape) .i8) (W : Vec Ideal S1x1024x2048 .bf16) (u : Vec Ideal (⟨2, ![n, 2048]⟩ : Shape) .f32)
    (h1 : (⟨2, ![n, 2048]⟩ : Shape).ShapeCasts ⟨2, ![n, 2048]⟩)
    (h2 : (⟨3, ![1, n, 1024]⟩ : Shape).ShapeCasts ⟨2, ![n, 1024]⟩) (h3 : S1x1024x2048.ShapeCasts S1024x2048) (p : Fin n) (q : Fin 2048) :
    (addf (shapeCast ⟨2, ![n, 2048]⟩ u h1) (FloatOps.matmul (F := Ideal) (φ₁ := .bf16) (φ₂ := .bf16) (DotDims.plain n 1024 2048) none (sitofp (F := Ideal) .bf16 (shapeCast ⟨2, ![n, 1024]⟩ v h2))
      (shapeCast S1024x2048 W h3) (constant ⟨2, ![n, 2048]⟩ .f32 0x00000000#32)) : FVec Ideal ⟨2, ![n, 2048]⟩ .f32) (ix2 p q)
      = u (ix2 p q) + dotAt v W p q :=
  congrArg₂ (· + ·) (congrFun (shapeCast_self u h1) _) (product_apply v W h2 h3 p q)

/-- The same, then scaled and cut off below at zero. -/
theorem finished_apply {n : ℕ} (s : EReal) (v : Vec Ideal (⟨3, ![1, n, 1024]⟩ : Shape) .i8) (W : Vec Ideal S1x1024x2048 .bf16) (u : Vec Ideal (⟨2, ![n, 2048]⟩ : Shape) .f32)
    (h1 : (⟨2, ![n, 2048]⟩ : Shape).ShapeCasts ⟨2, ![n, 2048]⟩)
    (h2 : (⟨3, ![1, n, 1024]⟩ : Shape).ShapeCasts ⟨2, ![n, 1024]⟩) (h3 : S1x1024x2048.ShapeCasts S1024x2048) (p : Fin n) (q : Fin 2048) :
    (maximumf (mulf (addf (shapeCast ⟨2, ![n, 2048]⟩ u h1) (FloatOps.matmul (F := Ideal) (φ₁ := .bf16) (φ₂ := .bf16) (DotDims.plain n 1024 2048) none (sitofp (F := Ideal) .bf16 (shapeCast ⟨2, ![n, 1024]⟩ v h2))
        (shapeCast S1024x2048 W h3) (constant ⟨2, ![n, 2048]⟩ .f32 0x00000000#32))) (broadcast ⟨2, ![n, 2048]⟩ s))
      (broadcast ⟨2, ![n, 2048]⟩ (Scalar.ofBits (F := Ideal) .f32 0x00000000#32)) : FVec Ideal ⟨2, ![n, 2048]⟩ .f32) (ix2 p q)
      = max ((u (ix2 p q) + dotAt v W p q) * s) 0 :=
  congrArg₂ max (congrArg (· * s) (added_apply v W u h1 h2 h3 p q)) Ideal.ofBits_zero_f32

/-! ## Rows of the result replaced -/

theorem oGet_apply {a n : ℕ} (h : a + n ≤ 1024) (f : Vec Ideal S1024x2048 .f32) (p : Fin n) (q : Fin 2048) :
    oGet a n (o_in h) f (ix2 p q) = f (ix2 ⟨a + p.val, by have := p.isLt; omega⟩ q) := by
  unfold oGet; rw [View.read_apply]
  refine congrArg f ?_
  funext x; apply Fin.ext
  refine (ValueKit.view_emb_slice_whole_unit_val cc0_stg3_0 _ _ (o_in h) _ x).trans ?_
  revert x; refine (Fin.forall_fin_two (p := fun x => _)).mpr ⟨?_, ?_⟩
  · rfl
  · exact Nat.zero_add _

theorem oSet_apply_in {a n : ℕ} (h : a + n ≤ 1024) (f : Vec Ideal S1024x2048 .f32) (w : Vec Ideal (⟨2, ![n, 2048]⟩ : Shape) .f32) (p : Fin n) (q : Fin 2048) :
    oSet a n (o_in h) f w (ix2 ⟨a + p.val, by have := p.isLt; omega⟩ q) = w (ix2 p q) := by
  have he : (oV a n (o_in h)).emb (ix2 p q) = ix2 (n0 := 1024) (n1 := 2048) ⟨a + p.val, by have := p.isLt; omega⟩ q := by
    funext x; apply Fin.ext
    refine (ValueKit.view_emb_slice_whole_unit_val cc0_stg3_0 _ _ (o_in h) _ x).trans ?_
    revert x; refine (Fin.forall_fin_two (p := fun x => _)).mpr ⟨?_, ?_⟩
    · rfl
    · exact Nat.zero_add _
  unfold oSet; rw [← he]
  exact View.write_emb_of_mem (v := oV a n (o_in h)) f w (Finset.mem_univ _)

theorem oSet_apply_out {a n : ℕ} (h : a + n ≤ 1024) (f : Vec Ideal S1024x2048 .f32) (w : Vec Ideal (⟨2, ![n, 2048]⟩ : Shape) .f32) (r : Fin 1024) (q : Fin 2048)
    (hr : ¬ (a ≤ r.val ∧ r.val < a + n)) : oSet a n (o_in h) f w (ix2 r q) = f (ix2 r q) := by
  unfold oSet
  refine View.write_of_not_mem (v := oV a n (o_in h)) f w _ fun hm => hr ?_
  obtain ⟨y, -, hy⟩ := Finset.mem_map.mp hm
  have h0 := (ValueKit.view_emb_slice_whole_unit_val cc0_stg3_0 _ _ (o_in h) y (0 : Fin 2)).symm.trans (congrArg Fin.val (congrFun hy (0 : Fin 2)))
  have h0 : a + (y 0).val = r.val := h0
  have hy : (y 0).val < n := (y 0).isLt
  omega

/-- Where a row of the result is among the replaced, it holds `g` of what was there; elsewhere it is as before. -/
theorem oUpd_apply {a n : ℕ} (h : a + n ≤ 1024) (g : Vec Ideal (⟨2, ![n, 2048]⟩ : Shape) .f32 → Vec Ideal (⟨2, ![n, 2048]⟩ : Shape) .f32)
    (G : EReal → Fin 1024 → Fin 2048 → EReal)
    (hg : ∀ u (p : Fin n) (q : Fin 2048), g u (ix2 p q) = G (u (ix2 p q)) ⟨a + p.val, by have := p.isLt; omega⟩ q)
    (f : Vec Ideal S1024x2048 .f32) (r : Fin 1024) (q : Fin 2048) :
    oUpd a n (o_in h) g f (ix2 r q) = if a ≤ r.val ∧ r.val < a + n then G (f (ix2 r q)) r q else f (ix2 r q) := by
  unfold oUpd
  by_cases hr : a ≤ r.val ∧ r.val < a + n
  · rw [if_pos hr]
    obtain ⟨p, rfl⟩ : ∃ p : Fin n, r = ⟨a + p.val, lt_of_lt_of_le (Nat.add_lt_add_left p.isLt a) h⟩ :=
      ⟨⟨r.val - a, by omega⟩, Fin.ext (show r.val = a + (r.val - a) by omega)⟩
    rw [oSet_apply_in h, hg, oGet_apply h]
  · rw [if_neg hr]; exact oSet_apply_out h f _ r q hr

/-! ## The terms -/

/-- Device `d`'s share of entry `(r, q)` of device `c`'s result. -/
def term (c d : Dev nD) (r : Fin 1024) (q : Fin 2048) : EReal :=
  ∑ k : Fin 1024,
    num (m ((d : Thread nD τ).loc main_arg0) (ix2 (n0 := 4096) (n1 := 1024) ⟨1024 * c.val + r.val, by have h2 : c.val < 4 := c.isLt; have := r.isLt; omega⟩ k))
      * num (m ((c : Thread nD τ).loc main_arg1) (ix2 (n0 := 4096) (n1 := 2048) ⟨1024 * d.val + k.val, by have h2 : d.val < 4 := d.isLt; have := k.isLt; omega⟩ q))

/-- `W` is block `d` of device `c`'s `w`, converted. -/
def IsBlock (c d : Dev nD) (W : Vec Ideal S1x1024x2048 .bf16) : Prop :=
  ∀ (k : Fin 1024) (q : Fin 2048), W (ix3 (0 : Fin 1) k q)
    = num (m ((c : Thread nD τ).loc main_arg1) (ix2 (n0 := 4096) (n1 := 2048) ⟨1024 * d.val + k.val, by have h2 : d.val < 4 := d.isLt; have := k.isLt; omega⟩ q))

/-- A converted block of `w`, at an entry. -/
theorem converted_apply (c b : Dev nD) (h : S1x1024x2048.ShapeCasts S1024x2048) (h' : S1024x2048.ShapeCasts S1x1024x2048) (k : Fin 1024) (q : Fin 2048) :
    (shapeCast S1x1024x2048 (sitofp (F := Ideal) .bf16 (shapeCast S1024x2048 (wVec m c b) h)) h' : Vec Ideal S1x1024x2048 .bf16) (ix3 (0 : Fin 1) k q) = num (wVec m c b (ix3 (0 : Fin 1) k q)) := by
  refine (shapeCast_addUnit_apply _ _ h' _).trans (congrArg num ?_)
  refine (shapeCast_dropUnit_apply _ (wVec m c b) h _).trans (congrArg (wVec m c b) ?_)
  funext a; match a with | ⟨0, _⟩ => rfl | ⟨1, _⟩ => rfl | ⟨2, _⟩ => rfl

/-- The product of the rows device `d` sent with block `d` of `w` is device `d`'s share. -/
theorem dotAt_rows (c d : Dev nD) {a n : ℕ} (h : a + n ≤ 1024) (W : Vec Ideal S1x1024x2048 .bf16)
    (hW : IsBlock m c d W)
    (p : Fin n) (q : Fin 2048) :
    dotAt (rows m ρ d c a n h) W p q = term m c d ⟨a + p.val, by have := p.isLt; omega⟩ q := by
  refine Finset.sum_congr rfl fun k _ => congrArg₂ (· * ·) (congrArg num ?_) (hW k q)
  unfold rows; rw [xstg_eq]; rfl

theorem own_apply (c : Dev nD) (r : Fin 1024) (q : Fin 2048) :
    (k0_pay3 (xVec m ρ c) (wOwn m c) : FVec Ideal S1024x2048 .f32) (ix2 r q) = term m c c r q := by
  unfold k0_pay3
  refine (Ideal.matmul_plain_apply (M := 1024) (K := 1024) (N := 2048) none _ _ _ r q).trans ?_
  refine (congrArg₂ (· + ·) (show (constant S1024x2048 .f32 0x00000000#32 : FVec Ideal _ .f32) (ix2 r q) = 0 from Ideal.ofBits_zero_f32) ?_).trans (zero_add _)
  refine Finset.sum_congr rfl fun k _ => congrArg₂ (· * ·) ?_ ?_
  · refine congrArg num ((congrFun (shapeCast_self (xVec m ρ c) _) _).trans ?_)
    unfold xVec; rw [xstg_eq]
  · refine (shapeCast_dropUnit_apply _ (wOwn m c) _ (ix2 k q)).trans ?_
    refine Eq.trans (congrArg (wOwn m c) ?_) ((converted_apply m c c _ _ k q).trans rfl)
    funext a; match a with | ⟨0, _⟩ => rfl | ⟨1, _⟩ => rfl | ⟨2, _⟩ => rfl

/-- The two scales' product. -/
def scale (c : Dev nD) : EReal :=
  (fun a b : EReal => a * b) (m ((c : Thread nD τ).loc main_arg2) (ix1 (0 : Fin 1))) (m ((c : Thread nD τ).loc main_arg3) (ix1 (0 : Fin 1)))

theorem sc_eq (c : Dev nD) : sc m ρ c = scale m c := by
  unfold sc; rw [sxstg_eq, swstg_eq]; rfl

theorem wPrev_apply (c : Dev nD) : IsBlock m c (sh 3 c) (wPrev m c) := fun k q => (converted_apply m c (sh 3 c) _ _ k q).trans rfl
theorem wNext_apply (c : Dev nD) : IsBlock m c (sh 1 c) (wNext m c) := fun k q => (converted_apply m c (sh 1 c) _ _ k q).trans rfl
theorem wFar_apply (c : Dev nD) : IsBlock m c (sh 2 c) (wFar m c) := fun k q => (converted_apply m c (sh 2 c) _ _ k q).trans rfl

/-- A neighbour's step on rows `a … a + n`: that neighbour's share is added there. -/
theorem neighbour_step (c d : Dev nD) {a n : ℕ} (h : a + n ≤ 1024) (W : Vec Ideal S1x1024x2048 .bf16)
    (hW : IsBlock m c d W)
    (g : Vec Ideal (⟨2, ![n, 2048]⟩ : Shape) .f32 → Vec Ideal (⟨2, ![n, 2048]⟩ : Shape) .f32)
    (hg : ∀ u (p : Fin n) (q : Fin 2048), g u (ix2 p q) = u (ix2 p q) + dotAt (rows m ρ d c a n h) W p q)
    (f : Vec Ideal S1024x2048 .f32) (r : Fin 1024) (q : Fin 2048) :
    oUpd a n (o_in h) g f (ix2 r q) = if a ≤ r.val ∧ r.val < a + n then f (ix2 r q) + term m c d r q else f (ix2 r q) :=
  oUpd_apply h g (fun e r q => e + term m c d r q) (fun u p q => by rw [hg, dotAt_rows m ρ c d h W hW]) f r q

/-- The far device's step on rows `a … a + n`: its share is added there, and the rows are finished. -/
theorem last_step (c d : Dev nD) {a n : ℕ} (h : a + n ≤ 1024) (W : Vec Ideal S1x1024x2048 .bf16)
    (hW : IsBlock m c d W)
    (g : Vec Ideal (⟨2, ![n, 2048]⟩ : Shape) .f32 → Vec Ideal (⟨2, ![n, 2048]⟩ : Shape) .f32)
    (hg : ∀ u (p : Fin n) (q : Fin 2048), g u (ix2 p q) = max ((u (ix2 p q) + dotAt (rows m ρ d c a n h) W p q) * sc m ρ c) 0)
    (f : Vec Ideal S1024x2048 .f32) (r : Fin 1024) (q : Fin 2048) :
    oUpd a n (o_in h) g f (ix2 r q) = if a ≤ r.val ∧ r.val < a + n then max ((f (ix2 r q) + term m c d r q) * scale m c) 0 else f (ix2 r q) :=
  oUpd_apply h g (fun e r q => max ((e + term m c d r q) * scale m c) 0) (fun u p q => by rw [hg, dotAt_rows m ρ c d h W hW, sc_eq]) f r q

/-! ## The whole result -/

/-- Entry `(r, q)` after the first half of the run. -/
theorem outHalf_apply (c : Dev nD) (r : Fin 1024) (q : Fin 2048) :
    outHalf m ρ c (ix2 r q) = if r.val < 256 then max ((term m c c r q + term m c (sh 3 c) r q + term m c (sh 1 c) r q + term m c (sh 2 c) r q) * scale m c) 0
      else if r.val < 512 then term m c c r q + term m c (sh 3 c) r q + term m c (sh 1 c) r q else term m c c r q := by
  unfold outHalf
  rw [last_step m ρ c (sh 2 c) (a := 0) (n := 256) (by decide) (wFar m c) (wFar_apply m c),
    neighbour_step m ρ c (sh 1 c) (a := 256) (n := 256) (by decide) (wNext m c) (wNext_apply m c),
    neighbour_step m ρ c (sh 3 c) (a := 256) (n := 256) (by decide) (wPrev m c) (wPrev_apply m c),
    neighbour_step m ρ c (sh 1 c) (a := 0) (n := 256) (by decide) (wNext m c) (wNext_apply m c),
    neighbour_step m ρ c (sh 3 c) (a := 0) (n := 256) (by decide) (wPrev m c) (wPrev_apply m c),
    own_apply]
  · rcases lt_or_ge r.val 256 with h | h
    · simp (disch := omega) only [if_pos, if_neg]
    · rcases lt_or_ge r.val 512 with h' | h' <;> simp (disch := omega) only [if_pos, if_neg]
  · exact fun u p q => added_apply (n := 256) _ _ _ _ _ _ p q
  · exact fun u p q => added_apply (n := 256) _ _ _ _ _ _ p q
  · exact fun u p q => added_apply (n := 256) _ _ _ _ _ _ p q
  · exact fun u p q => added_apply (n := 256) _ _ _ _ _ _ p q
  · exact fun u p q => finished_apply (n := 256) _ _ _ _ _ _ _ p q

/-- Entry `(r, q)` once the first two quarters are finished. -/
theorem outMost_apply (c : Dev nD) (r : Fin 1024) (q : Fin 2048) :
    outMost m ρ c (ix2 r q) = if r.val < 512 then max ((term m c c r q + term m c (sh 3 c) r q + term m c (sh 1 c) r q + term m c (sh 2 c) r q) * scale m c) 0
      else if r.val < 768 then term m c c r q + term m c (sh 3 c) r q + term m c (sh 1 c) r q else term m c c r q := by
  unfold outMost
  rw [last_step m ρ c (sh 2 c) (a := 256) (n := 256) (by decide) (wFar m c) (wFar_apply m c),
    neighbour_step m ρ c (sh 1 c) (a := 512) (n := 256) (by decide) (wNext m c) (wNext_apply m c),
    neighbour_step m ρ c (sh 3 c) (a := 512) (n := 256) (by decide) (wPrev m c) (wPrev_apply m c),
    outHalf_apply]
  · rcases lt_or_ge r.val 256 with h | h
    · simp (disch := omega) only [if_pos, if_neg]
    · rcases lt_or_ge r.val 512 with h' | h'
      · simp (disch := omega) only [if_pos, if_neg]
      · rcases lt_or_ge r.val 768 with h'' | h'' <;> simp (disch := omega) only [if_pos, if_neg]
  · exact fun u p q => added_apply (n := 256) _ _ _ _ _ _ p q
  · exact fun u p q => added_apply (n := 256) _ _ _ _ _ _ p q
  · exact fun u p q => finished_apply (n := 256) _ _ _ _ _ _ _ p q

/-- Every entry of device `c`'s result: the four devices' shares, scaled, cut off below at zero. -/
theorem outAt_apply (c : Dev nD) (r : Fin 1024) (q : Fin 2048) :
    outAt m ρ c (ix2 r q) = max ((term m c c r q + term m c (sh 3 c) r q + term m c (sh 1 c) r q + term m c (sh 2 c) r q) * scale m c) 0 := by
  unfold outAt
  rw [last_step m ρ c (sh 2 c) (a := 960) (n := 64) (by decide) (wFar m c) (wFar_apply m c),
    last_step m ρ c (sh 2 c) (a := 896) (n := 64) (by decide) (wFar m c) (wFar_apply m c),
    last_step m ρ c (sh 2 c) (a := 768) (n := 128) (by decide) (wFar m c) (wFar_apply m c),
    last_step m ρ c (sh 2 c) (a := 512) (n := 256) (by decide) (wFar m c) (wFar_apply m c),
    neighbour_step m ρ c (sh 1 c) (a := 768) (n := 256) (by decide) (wNext m c) (wNext_apply m c),
    neighbour_step m ρ c (sh 3 c) (a := 768) (n := 256) (by decide) (wPrev m c) (wPrev_apply m c),
    outMost_apply]
  · have hr := r.isLt
    rcases lt_or_ge r.val 512 with h | h
    · simp (disch := omega) only [if_pos, if_neg]
    · rcases lt_or_ge r.val 768 with h' | h'
      · simp (disch := omega) only [if_pos, if_neg]
      · rcases lt_or_ge r.val 896 with h'' | h''
        · simp (disch := omega) only [if_pos, if_neg]
        · rcases lt_or_ge r.val 960 with h3 | h3 <;> simp (disch := omega) only [if_pos, if_neg]
  · exact fun u p q => added_apply (n := 256) _ _ _ _ _ _ p q
  · exact fun u p q => added_apply (n := 256) _ _ _ _ _ _ p q
  · exact fun u p q => finished_apply (n := 256) _ _ _ _ _ _ _ p q
  · exact fun u p q => finished_apply (n := 128) _ _ _ _ _ _ _ p q
  · exact fun u p q => finished_apply (n := 64) _ _ _ _ _ _ _ p q
  · exact fun u p q => finished_apply (n := 64) _ _ _ _ _ _ _ p q

/-! ## Against one device -/

/-- Four numbers, one of each device, added in the order device `c` adds them. -/
theorem sum_round (f : Dev nD → EReal) (c : Dev nD) : f c + f (sh 3 c) + f (sh 1 c) + f (sh 2 c) = ∑ d : Fin 4, f d := by
  rw [Fin.sum_univ_four]
  match c with
  | 0 => rw [show sh 3 0 = 3 by decide, show sh 1 0 = 1 by decide, show sh 2 0 = 2 by decide]; ac_rfl
  | 1 => rw [show sh 3 1 = 0 by decide, show sh 1 1 = 2 by decide, show sh 2 1 = 3 by decide]; ac_rfl
  | 2 => rw [show sh 3 2 = 1 by decide, show sh 1 2 = 3 by decide, show sh 2 2 = 0 by decide]; ac_rfl
  | 3 => rw [show sh 3 3 = 2 by decide, show sh 1 3 = 0 by decide, show sh 2 3 = 1 by decide]; ac_rfl

/-- A sum over 4096 positions is the sum over four blocks of 1024. -/
theorem sum_blocks (g : Fin 4096 → EReal) :
    ∑ k : Fin 4096, g k = ∑ d : Fin 4, ∑ k : Fin 1024, g ⟨1024 * d.val + k.val, by have := d.isLt; have := k.isLt; omega⟩ := by
  rw [← Fintype.sum_prod_type (f := fun x : Fin 4 × Fin 1024 => g ⟨1024 * x.1.val + x.2.val, by have := x.1.isLt; have := x.2.isLt; omega⟩)]
  refine (Equiv.sum_comp (finProdFinEquiv (m := 4) (n := 1024)) g).symm.trans (Finset.sum_congr rfl fun x _ => congrArg g (Fin.ext ?_))
  show x.2.val + 1024 * x.1.val = 1024 * x.1.val + x.2.val
  omega

end Cert.KernelIdealValue

end
-- ==== Proof.ReferenceValue.lean ====
/-
The reference over the reals, entry by entry, and its agreement with the kernel's result.
-/
module

public import proofs.«01_k».proof.Proof.KernelIdealValue
public import proofs.«01_k».proof.Proof.Gen.ReferenceIdeal.Run
public import Idealize.ShloMosaic.Lib.StackMember
public import Idealize.ShloMosaic.Lib.Layout
public import Idealize.ShloMosaic.Lib.Quiescent

@[expose] public section

noncomputable section

namespace Cert.ReferenceValue

open Idealize.ShloMosaic Idealize.ShloMosaic.ValueIdx Idealize.ShloMosaic.TcCoe Idealize.SL.Sem
open Cert.ReferenceIdeal Cert.ReferenceIdeal.Gen
open Cert.KernelIdealValue (num term scale outAt_apply sum_round sum_blocks)
open scoped BigOperators

/-- The reference's result, of its four arguments. -/
def result (x : Vec Ideal S4096x4096 .i8) (w : Vec Ideal S4096x2048 .i8) (sx sw : Vec Ideal S1 .f32) : Vec Ideal S4096x2048 .f32 :=
  maximumf (F := Ideal) (mulf (Host.dotGeneral dot_S4096x4096_S4096x2048_S4096x2048_1_0_0_1_n_n none
      (sitofp .f32 (extsi 32 x natLt_8_32)) (sitofp .f32 (extsi 32 w natLt_8_32)))
    (broadcastInDim S4096x2048 ![0, 1] bcast_S1x1_S4096x2048_0_1 (broadcastInDim S1x1 ![1] bcast_S1_S1x1_1 (mulf sx sw))))
    (broadcastInDim S4096x2048 ![] bcast_S_S4096x2048 (constant S_ .f32 0x00000000#32))

/-- Widening an integer does not change its value. -/
theorem num_extsi (b : BitVec 8) : (((b.signExtend 32).toInt : ℝ) : EReal) = num b := by
  unfold num; rw [BitVec.toInt_signExtend_of_le (by decide)]

/-- An entry of the reference's result. -/
theorem result_apply (x : Vec Ideal S4096x4096 .i8) (w : Vec Ideal S4096x2048 .i8) (sx sw : Vec Ideal S1 .f32) (r : Fin 4096) (q : Fin 2048) :
    result x w sx sw (ix2 r q)
      = max ((∑ k : Fin 4096, num (x (ix2 r k)) * num (w (ix2 k q))) * (fun a b : EReal => a * b) (sx (ix1 (0 : Fin 1))) (sw (ix1 (0 : Fin 1)))) 0 := by
  refine congrArg₂ max (congrArg₂ (· * ·) ?_ ?_) Ideal.ofBits_zero_f32
  · refine (StackMember.dotGeneral_plain_apply (m := 4096) (k := 4096) (n := 2048) none _ _ r q).trans ?_
    exact Finset.sum_congr rfl fun k _ => congrArg₂ (· * ·) (num_extsi _) (num_extsi _)
  · have h1 : ∀ i j : S1.Idx, i = j := fun i j => by
      funext a; match a with | ⟨0, _⟩ => exact Subsingleton.elim (α := Fin 1) _ _
    exact congrArg₂ (fun a b : EReal => a * b) (congrArg sx (h1 _ _)) (congrArg sw (h1 _ _))

/-- Where each device holds its columns of `x`, and `w` and the scales whole, device `c`'s result is block `c` of the
    reference's, cut along the rows. -/
theorem outAt_eq (m : (ℓ : Loc Cert.KernelIdeal.nD Cert.KernelIdeal.τ Cert.KernelIdeal.sig) → Buf (Elt Ideal) ℓ) (ρ : Dev Cert.KernelIdeal.nD → PrngReg)
    (x : Vec Ideal S4096x4096 .i8) (w : Vec Ideal S4096x2048 .i8) (sx sw : Vec Ideal S1 .f32)
    (hx : ∀ c : Dev Cert.KernelIdeal.nD, m ((c.tc : Thread Cert.KernelIdeal.nD Cert.KernelIdeal.τ).loc Cert.KernelIdeal.main_arg0)
      = Layout.block ⟨2, ![4096, 1024]⟩ ⟨2, ![4096, 4096]⟩ 1 4 c x)
    (hw : ∀ c : Dev Cert.KernelIdeal.nD, m ((c.tc : Thread Cert.KernelIdeal.nD Cert.KernelIdeal.τ).loc Cert.KernelIdeal.main_arg1) = w)
    (hsx : ∀ c : Dev Cert.KernelIdeal.nD, m ((c.tc : Thread Cert.KernelIdeal.nD Cert.KernelIdeal.τ).loc Cert.KernelIdeal.main_arg2) = sx)
    (hsw : ∀ c : Dev Cert.KernelIdeal.nD, m ((c.tc : Thread Cert.KernelIdeal.nD Cert.KernelIdeal.τ).loc Cert.KernelIdeal.main_arg3) = sw)
    (c : Dev Cert.KernelIdeal.nD) :
    Cert.KernelIdealProof.outAt m ρ c = Layout.block ⟨2, ![1024, 2048]⟩ ⟨2, ![4096, 2048]⟩ 0 4 c (result x w sx sw) := by
  funext i
  obtain ⟨r, q, rfl⟩ : ∃ (r : Fin 1024) (q : Fin 2048), i = ix2 r q := ⟨i 0, i 1, eq_ix2 i⟩
  have hc : c.val < 4 := c.isLt
  have hi : Layout.Tiles.idx (S := ⟨2, ![1024, 2048]⟩) (T := ⟨2, ![4096, 2048]⟩) (a := 0) (k := 4) (by decide) c (ix2 r q)
      = ix2 (n0 := 4096) (n1 := 2048) ⟨1024 * c.val + r.val, by have := r.isLt; omega⟩ q := by
    funext a; apply Fin.ext
    match a with
    | ⟨0, _⟩ => show c.val * 1024 + r.val = 1024 * c.val + r.val; omega
    | ⟨1, _⟩ => rfl
  refine (outAt_apply m ρ c r q).trans (Eq.trans ?_ ((congrArg (result x w sx sw) hi).trans (result_apply x w sx sw _ q)).symm)
  rw [sum_round (fun d => term m c d r q) c, sum_blocks]
  refine congrArg₂ max (congrArg₂ (· * ·) (Finset.sum_congr rfl fun d _ => ?_) ?_) rfl
  · refine Finset.sum_congr rfl fun k _ => congrArg₂ (· * ·) (congrArg num ?_) (congrArg num (congrFun (hw c) _))
    refine (congrFun (hx d) _).trans (congrArg x ?_)
    funext a; apply Fin.ext
    match a with
    | ⟨0, _⟩ => rfl
    | ⟨1, _⟩ => show d.val * 1024 + k.val = 1024 * d.val + k.val; omega
  · unfold scale
    exact congrArg₂ (fun a b : EReal => a * b) (congrFun (hsx c) _) (congrFun (hsw c) _)

end Cert.ReferenceValue

end
-- ==== Proof.lean ====
/- The five claims: the kernel, the kernel over the reals and the reference each run and end quiescent with their
   arguments unchanged; the kernel over the reals is the kernel's own text; and its results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelEnds
public import proofs.«01_k».proof.Proof.KernelIdealEnds
public import proofs.«01_k».proof.Proof.ReferenceValue
public import Idealize.ShloMosaic.Adequacy
public import Idealize.ShloMosaic.Init

@[expose] public section

noncomputable section

namespace Cert.Proof

open Idealize.ShloMosaic Idealize.SL.Sem

/-- The kernel runs, leaves its arguments as they were, and every counter at zero. -/
theorem frame_kernel : Cert.quiescent_Kernel := fun m g _ =>
  (θ_run Cert.Kernel.defs _ _).mono (fun r h => ⟨fun c => (h.1 c).2, h.2⟩) (Cert.KernelProof.run_ends (F := Bits) m g)

/-- So does the kernel over the reals. -/
theorem frame_kernelIdeal : Cert.quiescent_KernelIdeal := fun m g _ =>
  (θ_run Cert.KernelIdeal.defs _ _).mono (fun r h => ⟨fun c => (h.1 c).2, h.2⟩) (Cert.KernelIdealProof.run_ends (F := Ideal) m g)

/-- So does the reference, which has no counter. -/
theorem frame_reference : Cert.quiescent_ReferenceIdeal := fun m g _ =>
  (θ_run Cert.ReferenceIdeal.defs _ _).mono (fun r h => ⟨fun c => (h c).2, sem_eq_zero_of_no_sems rfl _⟩)
    (Cert.ReferenceIdeal.Value.run (F := Ideal) m g)

/-- Over the reals, each device's result is its block of rows of the reference's. -/
theorem same_value : Cert.algebraic_KernelIdeal_ReferenceIdeal := fun m g m' g' _ hag =>
  ⟨Cert.ReferenceValue.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun r h c => ⟨(h.1 c).1.trans (Cert.ReferenceValue.outAt_eq m g _ _ _ _ (fun d => (hag d).1) (fun d => (hag d).2.1)
        (fun d => (hag d).2.2.1) (fun d => (hag d).2.2.2) c), (h.1 c).2⟩)
      (Cert.KernelIdealProof.run_ends (F := Ideal) m g),
    (θ_run Cert.ReferenceIdeal.defs _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, same_value⟩

end Cert.Proof

end
